-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_finite_trees [hPre_uniform_finite_trees : Cert.Pre_uniform_finite_trees.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_finite_trees.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 = (fun _ => 1#1)
    ∧ (Cert.Pre_uniform_finite_trees.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 = (fun _ => 1#1)
    ∧ (Cert.Pre_uniform_finite_trees.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 = (fun _ => 1#1)
    ∧ (Cert.Pre_uniform_finite_trees.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.1 = (fun _ => 1#1)
    ∧ (Cert.Pre_uniform_finite_trees.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_finite_trees [hPre_uniform_finite_trees : Cert.Pre_uniform_finite_trees.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_finite_trees.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).1 = (fun _ => 1#1)
    ∧ (Cert.Pre_uniform_finite_trees.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.1 = (fun _ => 1#1)
    ∧ (Cert.Pre_uniform_finite_trees.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.1 = (fun _ => 1#1)
    ∧ (Cert.Pre_uniform_finite_trees.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.1 = (fun _ => 1#1)
    ∧ (Cert.Pre_uniform_finite_trees.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_uniform_finite_trees [hKernelIdeal : Cert.KernelIdeal.Facts] [hPre_uniform_finite_trees : Cert.Pre_uniform_finite_trees.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_finite_trees m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_uniform_finite_trees [hReferenceIdeal : Cert.ReferenceIdeal.Facts] [hPre_uniform_finite_trees : Cert.Pre_uniform_finite_trees.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_finite_trees m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  True

def algebraic_KernelIdeal_ReferenceIdeal_pre_uniform_finite_trees [hKernelIdeal : Cert.KernelIdeal.Facts] [hReferenceIdeal : Cert.ReferenceIdeal.Facts] [hPre_uniform_finite_trees : Cert.Pre_uniform_finite_trees.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_finite_trees m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_uniform_finite_trees : Cert.Pre_uniform_finite_trees.Facts),
    quiescent_Kernel (hKernel := hKernel)
    ∧ quiescent_KernelIdeal (hKernelIdeal := hKernelIdeal)
    ∧ quiescent_KernelIdeal_pre_uniform_finite_trees (hKernelIdeal := hKernelIdeal) (hPre_uniform_finite_trees := hPre_uniform_finite_trees)
    ∧ quiescent_ReferenceIdeal (hReferenceIdeal := hReferenceIdeal)
    ∧ quiescent_ReferenceIdeal_pre_uniform_finite_trees (hReferenceIdeal := hReferenceIdeal) (hPre_uniform_finite_trees := hPre_uniform_finite_trees)
    ∧ preserves_Kernel_KernelIdeal
    ∧ algebraic_KernelIdeal_ReferenceIdeal_pre_uniform_finite_trees (hKernelIdeal := hKernelIdeal) (hReferenceIdeal := hReferenceIdeal) (hPre_uniform_finite_trees := hPre_uniform_finite_trees)
-- ==== Pre_uniform_finite_trees.lean ====
abbrev S131072x128 : Shape := ⟨2, ![131072, 128]⟩
abbrev S131072 : Shape := ⟨1, ![131072]⟩
abbrev S16384 : Shape := ⟨1, ![16384]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S131072 : S_.BroadcastsInDim S131072 (![] : Fin 0 → Fin S131072.rank)
  bcast_S_S16384 : S_.BroadcastsInDim S16384 (![] : Fin 0 → Fin S16384.rank)
  bcast_S_S131072x128 : S_.BroadcastsInDim S131072x128 (![] : Fin 0 → Fin S131072x128.rank)
  bcast_S_S128x128 : S_.BroadcastsInDim S128x128 (![] : Fin 0 → Fin S128x128.rank)
  bcast_S_S128 : S_.BroadcastsInDim S128 (![] : Fin 0 → Fin S128.rank)

variable [Facts]

def fn_part5 {F : FTy → Type} [FloatOps F] (main_arg18 : FVec F S128 .f32) (main_arg19 : FVec F S128 .f32) (main_v8 : IVec S131072 1) (main_v17 : IVec S16384 1) (main_v22 : IVec S131072x128 1) (main_v45 : IVec S128x128 1) (main_v89 : IVec S128 1) (main_cst_27 : FVec F S_ .f32) : IVec S131072 1 × IVec S16384 1 × IVec S131072x128 1 × IVec S128x128 1 × IVec S128 1 :=
  let main_v90 : FVec F S128 .f32 := broadcastInDim S128 ![] bcast_S_S128 main_cst_27
  let main_v91 : IVec S128 1 := cmpf .olt main_arg18 main_v90
  let main_cst_28 : FVec F S_ .f32 := constant S_ .f32 0xFF800000#32
  let main_v92 : FVec F S128 .f32 := broadcastInDim S128 ![] bcast_S_S128 main_cst_28
  let main_v93 : IVec S128 1 := cmpf .ogt main_arg18 main_v92
  let main_v94 : IVec S128 1 := andi main_v91 main_v93
  let main_v95 : IVec S128 1 := andi main_v89 main_v94
  let main_cst_29 : FVec F S_ .f32 := constant S_ .f32 0x7F800000#32
  let main_v96 : FVec F S128 .f32 := broadcastInDim S128 ![] bcast_S_S128 main_cst_29
  let main_v97 : IVec S128 1 := cmpf .olt main_arg19 main_v96
  let main_cst_30 : FVec F S_ .f32 := constant S_ .f32 0xFF800000#32
  let main_v98 : FVec F S128 .f32 := broadcastInDim S128 ![] bcast_S_S128 main_cst_30
  let main_v99 : IVec S128 1 := cmpf .ogt main_arg19 main_v98
  let main_v100 : IVec S128 1 := andi main_v97 main_v99
  let main_v101 : IVec S128 1 := andi main_v95 main_v100
  (main_v8, main_v17, main_v22, main_v45, main_v101)

def fn_part4 {F : FTy → Type} [FloatOps F] (main_arg12 : FVec F S128 .f32) (main_arg14 : FVec F S128 .f32) (main_arg15 : FVec F S128 .f32) (main_arg16 : FVec F S128 .f32) (main_arg18 : FVec F S128 .f32) (main_arg19 : FVec F S128 .f32) (main_v8 : IVec S131072 1) (main_v17 : IVec S16384 1) (main_v22 : IVec S131072x128 1) (main_v45 : IVec S128x128 1) (main_v71 : IVec S128 1) (main_cst_21 : FVec F S_ .f32) : IVec S131072 1 × IVec S16384 1 × IVec S131072x128 1 × IVec S128x128 1 × IVec S128 1 :=
  let main_v72 : FVec F S128 .f32 := broadcastInDim S128 ![] bcast_S_S128 main_cst_21
  let main_v73 : IVec S128 1 := cmpf .olt main_arg12 main_v72
  let main_v74 : IVec S128 1 := andi main_v71 main_v73
  let main_cst_22 : FVec F S_ .f32 := constant S_ .f32 0x7F800000#32
  let main_v75 : FVec F S128 .f32 := broadcastInDim S128 ![] bcast_S_S128 main_cst_22
  let main_v76 : IVec S128 1 := cmpf .olt main_arg14 main_v75
  let main_cst_23 : FVec F S_ .f32 := constant S_ .f32 0xFF800000#32
  let main_v77 : FVec F S128 .f32 := broadcastInDim S128 ![] bcast_S_S128 main_cst_23
  let main_v78 : IVec S128 1 := cmpf .ogt main_arg14 main_v77
  let main_v79 : IVec S128 1 := andi main_v76 main_v78
  let main_v80 : IVec S128 1 := andi main_v74 main_v79
  let main_cst_24 : FVec F S_ .f32 := constant S_ .f32 0x7F800000#32
  let main_v81 : FVec F S128 .f32 := broadcastInDim S128 ![] bcast_S_S128 main_cst_24
  let main_v82 : IVec S128 1 := cmpf .olt main_arg15 main_v81
  let main_cst_25 : FVec F S_ .f32 := constant S_ .f32 0xFF800000#32
  let main_v83 : FVec F S128 .f32 := broadcastInDim S128 ![] bcast_S_S128 main_cst_25
  let main_v84 : IVec S128 1 := cmpf .ogt main_arg15 main_v83
  let main_v85 : IVec S128 1 := andi main_v82 main_v84
  let main_v86 : IVec S128 1 := andi main_v80 main_v85
  let main_cst_26 : FVec F S_ .f32 := constant S_ .f32 0x7F800000#32
  let main_v87 : FVec F S128 .f32 := broadcastInDim S128 ![] bcast_S_S128 main_cst_26
  let main_v88 : IVec S128 1 := cmpf .olt main_arg16 main_v87
  let main_v89 : IVec S128 1 := andi main_v86 main_v88
  let main_cst_27 : FVec F S_ .f32 := constant S_ .f32 0x7F800000#32
  fn_part5 (F := F) main_arg18 main_arg19 main_v8 main_v17 main_v22 main_v45 main_v89 main_cst_27

def fn_part3 {F : FTy → Type} [FloatOps F] (main_arg7 : FVec F S128 .f32) (main_arg8 : FVec F S128 .f32) (main_arg10 : FVec F S128 .f32) (main_arg11 : FVec F S128 .f32) (main_arg12 : FVec F S128 .f32) (main_arg14 : FVec F S128 .f32) (main_arg15 : FVec F S128 .f32) (main_arg16 : FVec F S128 .f32) (main_arg18 : FVec F S128 .f32) (main_arg19 : FVec F S128 .f32) (main_v8 : IVec S131072 1) (main_v17 : IVec S16384 1) (main_v22 : IVec S131072x128 1) (main_v45 : IVec S128x128 1) (main_v50 : IVec S128 1) (main_v52 : IVec S128 1) (main_v53 : FVec F S128 .f32) : IVec S131072 1 × IVec S16384 1 × IVec S131072x128 1 × IVec S128x128 1 × IVec S128 1 :=
  let main_v54 : IVec S128 1 := cmpf .ogt main_arg7 main_v53
  let main_v55 : IVec S128 1 := andi main_v52 main_v54
  let main_v56 : IVec S128 1 := andi main_v50 main_v55
  let main_cst_16 : FVec F S_ .f32 := constant S_ .f32 0x7F800000#32
  let main_v57 : FVec F S128 .f32 := broadcastInDim S128 ![] bcast_S_S128 main_cst_16
  let main_v58 : IVec S128 1 := cmpf .olt main_arg8 main_v57
  let main_v59 : IVec S128 1 := andi main_v56 main_v58
  let main_cst_17 : FVec F S_ .f32 := constant S_ .f32 0x7F800000#32
  let main_v60 : FVec F S128 .f32 := broadcastInDim S128 ![] bcast_S_S128 main_cst_17
  let main_v61 : IVec S128 1 := cmpf .olt main_arg10 main_v60
  let main_cst_18 : FVec F S_ .f32 := constant S_ .f32 0xFF800000#32
  let main_v62 : FVec F S128 .f32 := broadcastInDim S128 ![] bcast_S_S128 main_cst_18
  let main_v63 : IVec S128 1 := cmpf .ogt main_arg10 main_v62
  let main_v64 : IVec S128 1 := andi main_v61 main_v63
  let main_v65 : IVec S128 1 := andi main_v59 main_v64
  let main_cst_19 : FVec F S_ .f32 := constant S_ .f32 0x7F800000#32
  let main_v66 : FVec F S128 .f32 := broadcastInDim S128 ![] bcast_S_S128 main_cst_19
  let main_v67 : IVec S128 1 := cmpf .olt main_arg11 main_v66
  let main_cst_20 : FVec F S_ .f32 := constant S_ .f32 0xFF800000#32
  let main_v68 : FVec F S128 .f32 := broadcastInDim S128 ![] bcast_S_S128 main_cst_20
  let main_v69 : IVec S128 1 := cmpf .ogt main_arg11 main_v68
  let main_v70 : IVec S128 1 := andi main_v67 main_v69
  let main_v71 : IVec S128 1 := andi main_v65 main_v70
  let main_cst_21 : FVec F S_ .f32 := constant S_ .f32 0x7F800000#32
  fn_part4 (F := F) main_arg12 main_arg14 main_arg15 main_arg16 main_arg18 main_arg19 main_v8 main_v17 main_v22 main_v45 main_v71 main_cst_21

def fn_part2 {F : FTy → Type} [FloatOps F] (main_arg6 : FVec F S128 .f32) (main_arg7 : FVec F S128 .f32) (main_arg8 : FVec F S128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128x128 .f32) (main_arg18 : FVec F S128 .f32) (main_arg19 : FVec F S128 .f32) (main_v8 : IVec S131072 1) (main_v17 : IVec S16384 1) (main_v22 : IVec S131072x128 1) (main_v33 : IVec S128x128 1) (main_v35 : IVec S128x128 1) (main_cst_9 : FVec F S_ .f32) : IVec S131072 1 × IVec S16384 1 × IVec S131072x128 1 × IVec S128x128 1 × IVec S128 1 :=
  let main_v36 : FVec F S128x128 .f32 := broadcastInDim S128x128 ![] bcast_S_S128x128 main_cst_9
  let main_v37 : IVec S128x128 1 := cmpf .ogt main_arg13 main_v36
  let main_v38 : IVec S128x128 1 := andi main_v35 main_v37
  let main_v39 : IVec S128x128 1 := andi main_v33 main_v38
  let main_cst_10 : FVec F S_ .f32 := constant S_ .f32 0x7F800000#32
  let main_v40 : FVec F S128x128 .f32 := broadcastInDim S128x128 ![] bcast_S_S128x128 main_cst_10
  let main_v41 : IVec S128x128 1 := cmpf .olt main_arg17 main_v40
  let main_cst_11 : FVec F S_ .f32 := constant S_ .f32 0xFF800000#32
  let main_v42 : FVec F S128x128 .f32 := broadcastInDim S128x128 ![] bcast_S_S128x128 main_cst_11
  let main_v43 : IVec S128x128 1 := cmpf .ogt main_arg17 main_v42
  let main_v44 : IVec S128x128 1 := andi main_v41 main_v43
  let main_v45 : IVec S128x128 1 := andi main_v39 main_v44
  let main_cst_12 : FVec F S_ .f32 := constant S_ .f32 0x7F800000#32
  let main_v46 : FVec F S128 .f32 := broadcastInDim S128 ![] bcast_S_S128 main_cst_12
  let main_v47 : IVec S128 1 := cmpf .olt main_arg6 main_v46
  let main_cst_13 : FVec F S_ .f32 := constant S_ .f32 0xFF800000#32
  let main_v48 : FVec F S128 .f32 := broadcastInDim S128 ![] bcast_S_S128 main_cst_13
  let main_v49 : IVec S128 1 := cmpf .ogt main_arg6 main_v48
  let main_v50 : IVec S128 1 := andi main_v47 main_v49
  let main_cst_14 : FVec F S_ .f32 := constant S_ .f32 0x7F800000#32
  let main_v51 : FVec F S128 .f32 := broadcastInDim S128 ![] bcast_S_S128 main_cst_14
  let main_v52 : IVec S128 1 := cmpf .olt main_arg7 main_v51
  let main_cst_15 : FVec F S_ .f32 := constant S_ .f32 0xFF800000#32
  let main_v53 : FVec F S128 .f32 := broadcastInDim S128 ![] bcast_S_S128 main_cst_15
  fn_part3 (F := F) main_arg7 main_arg8 main_arg10 main_arg11 main_arg12 main_arg14 main_arg15 main_arg16 main_arg18 main_arg19 main_v8 main_v17 main_v22 main_v45 main_v50 main_v52 main_v53

def fn_part1 {F : FTy → Type} [FloatOps F] (main_arg0 : FVec F S131072x128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128x128 .f32) (main_arg18 : FVec F S128 .f32) (main_arg19 : FVec F S128 .f32) (main_v8 : IVec S131072 1) (main_v17 : IVec S16384 1) (main_v18 : FVec F S131072x128 .f32) : IVec S131072 1 × IVec S16384 1 × IVec S131072x128 1 × IVec S128x128 1 × IVec S128 1 :=
  let main_v19 : IVec S131072x128 1 := cmpf .olt main_arg0 main_v18
  let main_cst_3 : FVec F S_ .f32 := constant S_ .f32 0xFF800000#32
  let main_v20 : FVec F S131072x128 .f32 := broadcastInDim S131072x128 ![] bcast_S_S131072x128 main_cst_3
  let main_v21 : IVec S131072x128 1 := cmpf .ogt main_arg0 main_v20
  let main_v22 : IVec S131072x128 1 := andi main_v19 main_v21
  let main_cst_4 : FVec F S_ .f32 := constant S_ .f32 0x7F800000#32
  let main_v23 : FVec F S128x128 .f32 := broadcastInDim S128x128 ![] bcast_S_S128x128 main_cst_4
  let main_v24 : IVec S128x128 1 := cmpf .olt main_arg5 main_v23
  let main_cst_5 : FVec F S_ .f32 := constant S_ .f32 0xFF800000#32
  let main_v25 : FVec F S128x128 .f32 := broadcastInDim S128x128 ![] bcast_S_S128x128 main_cst_5
  let main_v26 : IVec S128x128 1 := cmpf .ogt main_arg5 main_v25
  let main_v27 : IVec S128x128 1 := andi main_v24 main_v26
  let main_cst_6 : FVec F S_ .f32 := constant S_ .f32 0x7F800000#32
  let main_v28 : FVec F S128x128 .f32 := broadcastInDim S128x128 ![] bcast_S_S128x128 main_cst_6
  let main_v29 : IVec S128x128 1 := cmpf .olt main_arg9 main_v28
  let main_cst_7 : FVec F S_ .f32 := constant S_ .f32 0xFF800000#32
  let main_v30 : FVec F S128x128 .f32 := broadcastInDim S128x128 ![] bcast_S_S128x128 main_cst_7
  let main_v31 : IVec S128x128 1 := cmpf .ogt main_arg9 main_v30
  let main_v32 : IVec S128x128 1 := andi main_v29 main_v31
  let main_v33 : IVec S128x128 1 := andi main_v27 main_v32
  let main_cst_8 : FVec F S_ .f32 := constant S_ .f32 0x7F800000#32
  let main_v34 : FVec F S128x128 .f32 := broadcastInDim S128x128 ![] bcast_S_S128x128 main_cst_8
  let main_v35 : IVec S128x128 1 := cmpf .olt main_arg13 main_v34
  let main_cst_9 : FVec F S_ .f32 := constant S_ .f32 0xFF800000#32
  fn_part2 (F := F) main_arg6 main_arg7 main_arg8 main_arg10 main_arg11 main_arg12 main_arg13 main_arg14 main_arg15 main_arg16 main_arg17 main_arg18 main_arg19 main_v8 main_v17 main_v22 main_v33 main_v35 main_cst_9

def fn {F : FTy → Type} [FloatOps F] (main_arg0 : FVec F S131072x128 .f32) (main_arg1 : IVec S131072 32) (main_arg2 : IVec S16384 32) (main_arg3 : IVec S131072 32) (main_arg4 : IVec S16384 32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128x128 .f32) (main_arg18 : FVec F S128 .f32) (main_arg19 : FVec F S128 .f32) (main_arg20 : FVec F S128 .f32) (main_arg21 : FVec F S128x16 .f32) (main_arg22 : FVec F S16 .f32) (main_arg23 : FVec F S128x16 .f32) (main_arg24 : FVec F S16 .f32) (main_arg25 : FVec F S128x16 .f32) (main_arg26 : FVec F S16 .f32) : IVec S131072 1 × IVec S16384 1 × IVec S131072x128 1 × IVec S128x128 1 × IVec S128 1 :=
  let main_v0 : IVec S131072 32 := iotaInDim S131072 32 0
  let main_c : IVec S_ 32 := constantI S_ 32 8#32
  let main_v1 : IVec S131072 32 := broadcastInDim S131072 ![] bcast_S_S131072 main_c
  let main_v2 : IVec S131072 32 := Host.divsi main_v0 main_v1
  let main_v3 : IVec S131072 1 := cmpi .eq main_arg1 main_v2
  let main_v4 : IVec S131072 32 := iotaInDim S131072 32 0
  let main_c_0 : IVec S_ 32 := constantI S_ 32 512#32
  let main_v5 : IVec S131072 32 := broadcastInDim S131072 ![] bcast_S_S131072 main_c_0
  let main_v6 : IVec S131072 32 := Host.divsi main_v4 main_v5
  let main_v7 : IVec S131072 1 := cmpi .eq main_arg3 main_v6
  let main_v8 : IVec S131072 1 := andi main_v3 main_v7
  let main_v9 : IVec S16384 32 := iotaInDim S16384 32 0
  let main_c_1 : IVec S_ 32 := constantI S_ 32 64#32
  let main_v10 : IVec S16384 32 := broadcastInDim S16384 ![] bcast_S_S16384 main_c_1
  let main_v11 : IVec S16384 32 := Host.divsi main_v9 main_v10
  let main_v12 : IVec S16384 1 := cmpi .eq main_arg2 main_v11
  let main_v13 : IVec S16384 32 := iotaInDim S16384 32 0
  let main_c_2 : IVec S_ 32 := constantI S_ 32 64#32
  let main_v14 : IVec S16384 32 := broadcastInDim S16384 ![] bcast_S_S16384 main_c_2
  let main_v15 : IVec S16384 32 := Host.divsi main_v13 main_v14
  let main_v16 : IVec S16384 1 := cmpi .eq main_arg4 main_v15
  let main_v17 : IVec S16384 1 := andi main_v12 main_v16
  let main_cst : FVec F S_ .f32 := constant S_ .f32 0x7F800000#32
  let main_v18 : FVec F S131072x128 .f32 := broadcastInDim S131072x128 ![] bcast_S_S131072x128 main_cst
  fn_part1 (F := F) main_arg0 main_arg5 main_arg6 main_arg7 main_arg8 main_arg9 main_arg10 main_arg11 main_arg12 main_arg13 main_arg14 main_arg15 main_arg16 main_arg17 main_arg18 main_arg19 main_v8 main_v17 main_v18
-- ==== Kernel.lean ====
abbrev S131072x128 : Shape := ⟨2, ![131072, 128]⟩
abbrev S131072 : Shape := ⟨1, ![131072]⟩
abbrev S16384 : Shape := ⟨1, ![16384]⟩
abbrev S128x128 : Shape := ⟨2, ![128, 128]⟩
abbrev S128 : Shape := ⟨1, ![128]⟩
abbrev S128x16 : Shape := ⟨2, ![128, 16]⟩
abbrev S16 : Shape := ⟨1, ![16]⟩
abbrev S16384x8x128 : Shape := ⟨3, ![16384, 8, 128]⟩
abbrev S1x16 : Shape := ⟨2, ![1, 16]⟩
abbrev S1x128 : Shape := ⟨2, ![1, 128]⟩
abbrev S256x16 : Shape := ⟨2, ![256, 16]⟩
abbrev S4x1024x8x128 : Shape := ⟨4, ![4, 1024, 8, 128]⟩
abbrev S16384x128 : Shape := ⟨2, ![16384, 128]⟩
abbrev S256x128 : Shape := ⟨2, ![256, 128]⟩
abbrev S4 : Shape := ⟨1, ![4]⟩
abbrev S1 : Shape := ⟨1, ![1]⟩
abbrev S_ : Shape := ⟨0, ![]⟩
abbrev S1x1024x8x128 : Shape := ⟨4, ![1, 1024, 8, 128]⟩
abbrev S1024x8x128 : Shape := ⟨3, ![1024, 8, 128]⟩
abbrev S1024x128 : Shape := ⟨2, ![1024, 128]⟩
abbrev S16x64x128 : Shape := ⟨3, ![16, 64, 128]⟩
abbrev S16x128 : Shape := ⟨2, ![16, 128]⟩
abbrev S256x64x128 : Shape := ⟨3, ![256, 64, 128]⟩

abbrev nBuf : Space → Nat
  | .hbm => 44
  | .vmem => 24
  | .smem => 0
  | _ => 0

abbrev bufTy : (tb : Table) → Fin (tcTables nBuf tb) → BufTy
  | .hbm, ⟨0, _⟩ => ⟨S131072x128, .f32⟩
  | .hbm, ⟨1, _⟩ => ⟨S131072, .i32⟩
  | .hbm, ⟨2, _⟩ => ⟨S16384, .i32⟩
  | .hbm, ⟨3, _⟩ => ⟨S131072, .i32⟩
  | .hbm, ⟨4, _⟩ => ⟨S16384, .i32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128x16, .f32⟩
  | .hbm, ⟨22, _⟩ => ⟨S16, .f32⟩
  | .hbm, ⟨23, _⟩ => ⟨S128x16, .f32⟩
  | .hbm, ⟨24, _⟩ => ⟨S16, .f32⟩
  | .hbm, ⟨25, _⟩ => ⟨S128x16, .f32⟩
  | .hbm, ⟨26, _⟩ => ⟨S16, .f32⟩
  | .hbm, ⟨27, _⟩ => ⟨S16384x8x128, .f32⟩
  | .hbm, ⟨28, _⟩ => ⟨S16, .f32⟩
  | .hbm, ⟨29, _⟩ => ⟨S16, .f32⟩
  | .hbm, ⟨30, _⟩ => ⟨S1x16, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S256x16, .f32⟩
  | .local _ .vmem, ⟨0, _⟩ => ⟨S128x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x16, .f32⟩
  | .local _ .vmem, ⟨17, _⟩ => ⟨S128x16, .f32⟩
  | .local _ .vmem, ⟨18, _⟩ => ⟨S128x16, .f32⟩
  | .local _ .vmem, ⟨19, _⟩ => ⟨S1x16, .f32⟩
  | .local _ .vmem, ⟨20, _⟩ => ⟨S256x16, .f32⟩
  | .local _ .vmem, ⟨21, _⟩ => ⟨S4x1024x8x128, .f32⟩
  | .local _ .vmem, ⟨22, _⟩ => ⟨S16384x128, .f32⟩
  | .local _ .vmem, ⟨23, _⟩ => ⟨S256x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== ReferenceIdeal.lean ====
abbrev S131072x128 : Shape := ⟨2, ![131072, 128]⟩
abbrev S131072 : Shape := ⟨1, ![131072]⟩
abbrev S16384 : Shape := ⟨1, ![16384]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S16384x128 : Shape := ⟨2, ![16384, 128]⟩
abbrev S131072x1 : Shape := ⟨2, ![131072, 1]⟩
abbrev S1x128 : Shape := ⟨2, ![1, 128]⟩
abbrev S256x128 : Shape := ⟨2, ![256, 128]⟩
abbrev S16384x1 : Shape := ⟨2, ![16384, 1]⟩
abbrev S256x16 : Shape := ⟨2, ![256, 16]⟩
abbrev S1x16 : Shape := ⟨2, ![1, 16]⟩

abbrev nBuf : Space → Nat
  | .hbm => 261
  | .vmem => 0
  | .smem => 0
  | _ => 0

abbrev hbmTy0_0 (i : Nat) : BufTy := match i % 128 with
  | 0 => ⟨S131072x128, .f32⟩
  | 1 => ⟨S131072, .i32⟩
  | 2 => ⟨S16384, .i32⟩
  | 3 => ⟨S131072, .i32⟩
  | 4 => ⟨S16384, .i32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S128, .f32⟩
  | 16 => ⟨S128, .f32⟩
  | 17 => ⟨S128x128, .f32⟩
  | 18 => ⟨S128, .f32⟩
  | 19 => ⟨S128, .f32⟩
  | 20 => ⟨S128, .f32⟩
  | 21 => ⟨S128x16, .f32⟩
  | 22 => ⟨S16, .f32⟩
  | 23 => ⟨S128x16, .f32⟩
  | 24 => ⟨S16, .f32⟩
  | 25 => ⟨S128x16, .f32⟩
  | 26 => ⟨S16, .f32⟩
  | 27 => ⟨S_, .f32⟩
  | 28 => ⟨S16384x128, .f32⟩
  | 29 => ⟨S131072x1, .i32⟩
  | 30 => ⟨S16384x128, .f32⟩
  | 31 => ⟨S16384x128, .f32⟩
  | 32 => ⟨S1x128, .f32⟩
  | 33 => ⟨S16384x128, .f32⟩
  | 34 => ⟨S16384x128, .f32⟩
  | 35 => ⟨S_, .f32⟩
  | 36 => ⟨S128, .f32⟩
  | 37 => ⟨S_, .f32⟩
  | 38 => ⟨S128, .f32⟩
  | 39 => ⟨S128, .f32⟩
  | 40 => ⟨S_, .i32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S16384x128, .f32⟩
  | 48 => ⟨S16384x128, .f32⟩
  | 49 => ⟨S16384x128, .f32⟩
  | 50 => ⟨S_, .f32⟩
  | 51 => ⟨S_, .f32⟩
  | 52 => ⟨S_, .f32⟩
  | 53 => ⟨S_, .f32⟩
  | 54 => ⟨S128, .f32⟩
  | 55 => ⟨S128, .f32⟩
  | 56 => ⟨S128, .f32⟩
  | 57 => ⟨S_, .f32⟩
  | 58 => ⟨S_, .i1⟩
  | 59 => ⟨S_, .f32⟩
  | 60 => ⟨S_, .f32⟩
  | 61 => ⟨S128, .f32⟩
  | 62 => ⟨S128, .f32⟩
  | 63 => ⟨S1x128, .f32⟩
  | 64 => ⟨S16384x128, .f32⟩
  | 65 => ⟨S16384x128, .f32⟩
  | 66 => ⟨S_, .f32⟩
  | 67 => ⟨S128, .f32⟩
  | 68 => ⟨S128, .f32⟩
  | 69 => ⟨S128, .f32⟩
  | 70 => ⟨S1x128, .f32⟩
  | 71 => ⟨S16384x128, .f32⟩
  | 72 => ⟨S16384x128, .f32⟩
  | 73 => ⟨S1x128, .f32⟩
  | 74 => ⟨S16384x128, .f32⟩
  | 75 => ⟨S16384x128, .f32⟩
  | 76 => ⟨S1x128, .f32⟩
  | 77 => ⟨S16384x128, .f32⟩
  | 78 => ⟨S16384x128, .f32⟩
  | 79 => ⟨S_, .f32⟩
  | 80 => ⟨S16384x128, .f32⟩
  | 81 => ⟨S16384x128, .f32⟩
  | 82 => ⟨S16384x128, .f32⟩
  | 83 => ⟨S1x128, .f32⟩
  | 84 => ⟨S16384x128, .f32⟩
  | 85 => ⟨S16384x128, .f32⟩
  | 86 => ⟨S_, .f32⟩
  | 87 => ⟨S128, .f32⟩
  | 88 => ⟨S_, .f32⟩
  | 89 => ⟨S128, .f32⟩
  | 90 => ⟨S128, .f32⟩
  | 91 => ⟨S_, .i32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S16384x128, .f32⟩
  | 99 => ⟨S16384x128, .f32⟩
  | 100 => ⟨S16384x128, .f32⟩
  | 101 => ⟨S_, .f32⟩
  | 102 => ⟨S_, .f32⟩
  | 103 => ⟨S_, .f32⟩
  | 104 => ⟨S_, .f32⟩
  | 105 => ⟨S128, .f32⟩
  | 106 => ⟨S128, .f32⟩
  | 107 => ⟨S128, .f32⟩
  | 108 => ⟨S_, .f32⟩
  | 109 => ⟨S_, .i1⟩
  | 110 => ⟨S_, .f32⟩
  | 111 => ⟨S_, .f32⟩
  | 112 => ⟨S128, .f32⟩
  | 113 => ⟨S128, .f32⟩
  | 114 => ⟨S1x128, .f32⟩
  | 115 => ⟨S16384x128, .f32⟩
  | 116 => ⟨S16384x128, .f32⟩
  | 117 => ⟨S_, .f32⟩
  | 118 => ⟨S128, .f32⟩
  | 119 => ⟨S128, .f32⟩
  | 120 => ⟨S128, .f32⟩
  | 121 => ⟨S1x128, .f32⟩
  | 122 => ⟨S16384x128, .f32⟩
  | 123 => ⟨S16384x128, .f32⟩
  | 124 => ⟨S1x128, .f32⟩
  | 125 => ⟨S16384x128, .f32⟩
  | 126 => ⟨S16384x128, .f32⟩
  | 127 => ⟨S1x128, .f32⟩
  | _ => ⟨S131072x128, .f32⟩

abbrev hbmTy0_1 (i : Nat) : BufTy := match i % 128 with
  | 0 => ⟨S16384x128, .f32⟩
  | 1 => ⟨S16384x128, .f32⟩
  | 2 => ⟨S_, .f32⟩
  | 3 => ⟨S16384x128, .f32⟩
  | 4 => ⟨S16384x128, .f32⟩
  | 5 => ⟨S_, .f32⟩
  | 6 => ⟨S256x128, .f32⟩
  | 7 => ⟨S16384x1, .i32⟩
  | 8 => ⟨S256x128, .f32⟩
  | 9 => ⟨S256x128, .f32⟩
  | 10 => ⟨S1x128, .f32⟩
  | 11 => ⟨S256x128, .f32⟩
  | 12 => ⟨S256x128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S256x128, .f32⟩
  | 26 => ⟨S256x128, .f32⟩
  | 27 => ⟨S256x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S256x128, .f32⟩
  | 43 => ⟨S256x128, .f32⟩
  | 44 => ⟨S_, .f32⟩
  | 45 => ⟨S128, .f32⟩
  | 46 => ⟨S128, .f32⟩
  | 47 => ⟨S128, .f32⟩
  | 48 => ⟨S1x128, .f32⟩
  | 49 => ⟨S256x128, .f32⟩
  | 50 => ⟨S256x128, .f32⟩
  | 51 => ⟨S1x128, .f32⟩
  | 52 => ⟨S256x128, .f32⟩
  | 53 => ⟨S256x128, .f32⟩
  | 54 => ⟨S1x128, .f32⟩
  | 55 => ⟨S256x128, .f32⟩
  | 56 => ⟨S256x128, .f32⟩
  | 57 => ⟨S_, .f32⟩
  | 58 => ⟨S256x128, .f32⟩
  | 59 => ⟨S256x128, .f32⟩
  | 60 => ⟨S256x128, .f32⟩
  | 61 => ⟨S1x128, .f32⟩
  | 62 => ⟨S256x128, .f32⟩
  | 63 => ⟨S256x128, .f32⟩
  | 64 => ⟨S_, .f32⟩
  | 65 => ⟨S128, .f32⟩
  | 66 => ⟨S_, .f32⟩
  | 67 => ⟨S128, .f32⟩
  | 68 => ⟨S128, .f32⟩
  | 69 => ⟨S_, .i32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S256x128, .f32⟩
  | 77 => ⟨S256x128, .f32⟩
  | 78 => ⟨S256x128, .f32⟩
  | 79 => ⟨S_, .f32⟩
  | 80 => ⟨S_, .f32⟩
  | 81 => ⟨S_, .f32⟩
  | 82 => ⟨S_, .f32⟩
  | 83 => ⟨S128, .f32⟩
  | 84 => ⟨S128, .f32⟩
  | 85 => ⟨S128, .f32⟩
  | 86 => ⟨S_, .f32⟩
  | 87 => ⟨S_, .i1⟩
  | 88 => ⟨S_, .f32⟩
  | 89 => ⟨S_, .f32⟩
  | 90 => ⟨S128, .f32⟩
  | 91 => ⟨S128, .f32⟩
  | 92 => ⟨S1x128, .f32⟩
  | 93 => ⟨S256x128, .f32⟩
  | 94 => ⟨S256x128, .f32⟩
  | 95 => ⟨S_, .f32⟩
  | 96 => ⟨S128, .f32⟩
  | 97 => ⟨S128, .f32⟩
  | 98 => ⟨S128, .f32⟩
  | 99 => ⟨S1x128, .f32⟩
  | 100 => ⟨S256x128, .f32⟩
  | 101 => ⟨S256x128, .f32⟩
  | 102 => ⟨S1x128, .f32⟩
  | 103 => ⟨S256x128, .f32⟩
  | 104 => ⟨S256x128, .f32⟩
  | 105 => ⟨S1x128, .f32⟩
  | 106 => ⟨S256x128, .f32⟩
  | 107 => ⟨S256x128, .f32⟩
  | 108 => ⟨S_, .f32⟩
  | 109 => ⟨S256x128, .f32⟩
  | 110 => ⟨S256x128, .f32⟩
  | 111 => ⟨S_, .f32⟩
  | 112 => ⟨S256x128, .f32⟩
  | 113 => ⟨S131072x1, .i32⟩
  | 114 => ⟨S256x128, .f32⟩
  | 115 => ⟨S256x16, .f32⟩
  | 116 => ⟨S1x16, .f32⟩
  | 117 => ⟨S256x16, .f32⟩
  | 118 => ⟨S256x16, .f32⟩
  | 119 => ⟨S_, .f32⟩
  | 120 => ⟨S256x128, .f32⟩
  | 121 => ⟨S16384x1, .i32⟩
  | 122 => ⟨S256x128, .f32⟩
  | 123 => ⟨S256x16, .f32⟩
  | 124 => ⟨S1x16, .f32⟩
  | 125 => ⟨S256x16, .f32⟩
  | 126 => ⟨S256x16, .f32⟩
  | 127 => ⟨S256x16, .f32⟩
  | _ => ⟨S131072x128, .f32⟩

abbrev hbmTy0_2 (i : Nat) : BufTy := match i % 128 with
  | 0 => ⟨S256x16, .f32⟩
  | 1 => ⟨S1x16, .f32⟩
  | 2 => ⟨S256x16, .f32⟩
  | 3 => ⟨S256x16, .f32⟩
  | 4 => ⟨S256x16, .f32⟩
  | _ => ⟨S131072x128, .f32⟩

abbrev hbmTy (i : Nat) : BufTy := match i / 128 with
  | 0 => hbmTy0_0 i
  | 1 => hbmTy0_1 i
  | 2 => hbmTy0_2 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_v9 : Ref sig .tc := ⟨.hbm, 39, rfl⟩
abbrev main_c : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_cst_2 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_call1_cst : Ref sig .tc := ⟨.hbm, 79, rfl⟩
abbrev main_call1_v0 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_cst_3 : Ref sig .tc := ⟨.hbm, 86, rfl⟩
abbrev main_v31 : Ref sig .tc := ⟨.hbm, 87, rfl⟩
abbrev main_cst_4 : Ref sig .tc := ⟨.hbm, 88, rfl⟩
abbrev main_v32 : Ref sig .tc := ⟨.hbm, 89, rfl⟩
abbrev main_v33 : Ref sig .tc := ⟨.hbm, 90, rfl⟩
abbrev main_c_5 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_cst_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_cst_1 : Ref sig .tc := ⟨.hbm, 102, rfl⟩
abbrev main_call2_v8 : Ref sig .tc := ⟨.hbm, 103, rfl⟩
abbrev main_call2_cst_2 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_cst_3 : Ref sig .tc := ⟨.hbm, 108, rfl⟩
abbrev main_call2_v12 : Ref sig .tc := ⟨.hbm, 109, rfl⟩
abbrev main_call2_cst_4 : Ref sig .tc := ⟨.hbm, 110, rfl⟩
abbrev main_call2_call0_v0 : Ref sig .tc := ⟨.hbm, 111, rfl⟩
abbrev main_call2_call0_v1 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_cst_6 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_call3_cst : Ref sig .tc := ⟨.hbm, 130, rfl⟩
abbrev main_call3_v0 : Ref sig .tc := ⟨.hbm, 131, rfl⟩
abbrev main_v50 : Ref sig .tc := ⟨.hbm, 132, rfl⟩
abbrev main_cst_7 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_cst_8 : Ref sig .tc := ⟨.hbm, 141, rfl⟩
abbrev main_v58 : Ref sig .tc := ⟨.hbm, 142, rfl⟩
abbrev main_cst_9 : Ref sig .tc := ⟨.hbm, 143, rfl⟩
abbrev main_v59 : Ref sig .tc := ⟨.hbm, 144, rfl⟩
abbrev main_v60 : Ref sig .tc := ⟨.hbm, 145, rfl⟩
abbrev main_c_10 : Ref sig .tc := ⟨.hbm, 146, rfl⟩
abbrev main_call4_cst : Ref sig .tc := ⟨.hbm, 147, rfl⟩
abbrev main_call4_v0 : Ref sig .tc := ⟨.hbm, 148, rfl⟩
abbrev main_call4_v1 : Ref sig .tc := ⟨.hbm, 149, rfl⟩
abbrev main_call4_cst_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_v6 : Ref sig .tc := ⟨.hbm, 155, rfl⟩
abbrev main_call4_v7 : Ref sig .tc := ⟨.hbm, 156, rfl⟩
abbrev main_call4_cst_1 : Ref sig .tc := ⟨.hbm, 157, rfl⟩
abbrev main_call4_v8 : Ref sig .tc := ⟨.hbm, 158, rfl⟩
abbrev main_call4_cst_2 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_cst_3 : Ref sig .tc := ⟨.hbm, 163, rfl⟩
abbrev main_call4_v12 : Ref sig .tc := ⟨.hbm, 164, rfl⟩
abbrev main_call4_cst_4 : Ref sig .tc := ⟨.hbm, 165, rfl⟩
abbrev main_call4_call0_v0 : Ref sig .tc := ⟨.hbm, 166, rfl⟩
abbrev main_call4_call0_v1 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_cst_11 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_call5_cst : Ref sig .tc := ⟨.hbm, 185, rfl⟩
abbrev main_call5_v0 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_cst_12 : Ref sig .tc := ⟨.hbm, 192, rfl⟩
abbrev main_v82 : Ref sig .tc := ⟨.hbm, 193, rfl⟩
abbrev main_cst_13 : Ref sig .tc := ⟨.hbm, 194, rfl⟩
abbrev main_v83 : Ref sig .tc := ⟨.hbm, 195, rfl⟩
abbrev main_v84 : Ref sig .tc := ⟨.hbm, 196, rfl⟩
abbrev main_c_14 : Ref sig .tc := ⟨.hbm, 197, rfl⟩
abbrev main_call6_cst : Ref sig .tc := ⟨.hbm, 198, rfl⟩
abbrev main_call6_v0 : Ref sig .tc := ⟨.hbm, 199, rfl⟩
abbrev main_call6_v1 : Ref sig .tc := ⟨.hbm, 200, rfl⟩
abbrev main_call6_cst_0 : Ref sig .tc := ⟨.hbm, 201, rfl⟩
abbrev main_call6_v2 : Ref sig .tc := ⟨.hbm, 202, rfl⟩
abbrev main_call6_v3 : Ref sig .tc := ⟨.hbm, 203, rfl⟩
abbrev main_call6_v4 : Ref sig .tc := ⟨.hbm, 204, rfl⟩
abbrev main_call6_v5 : Ref sig .tc := ⟨.hbm, 205, rfl⟩
abbrev main_call6_v6 : Ref sig .tc := ⟨.hbm, 206, rfl⟩
abbrev main_call6_v7 : Ref sig .tc := ⟨.hbm, 207, rfl⟩
abbrev main_call6_cst_1 : Ref sig .tc := ⟨.hbm, 208, rfl⟩
abbrev main_call6_v8 : Ref sig .tc := ⟨.hbm, 209, rfl⟩
abbrev main_call6_cst_2 : Ref sig .tc := ⟨.hbm, 210, rfl⟩
abbrev main_call6_v9 : Ref sig .tc := ⟨.hbm, 211, rfl⟩
abbrev main_call6_v10 : Ref sig .tc := ⟨.hbm, 212, rfl⟩
abbrev main_call6_v11 : Ref sig .tc := ⟨.hbm, 213, rfl⟩
abbrev main_call6_cst_3 : Ref sig .tc := ⟨.hbm, 214, rfl⟩
abbrev main_call6_v12 : Ref sig .tc := ⟨.hbm, 215, rfl⟩
abbrev main_call6_cst_4 : Ref sig .tc := ⟨.hbm, 216, rfl⟩
abbrev main_call6_call0_v0 : Ref sig .tc := ⟨.hbm, 217, rfl⟩
abbrev main_call6_call0_v1 : Ref sig .tc := ⟨.hbm, 218, rfl⟩
abbrev main_v85 : Ref sig .tc := ⟨.hbm, 219, rfl⟩
abbrev main_v86 : Ref sig .tc := ⟨.hbm, 220, rfl⟩
abbrev main_v87 : Ref sig .tc := ⟨.hbm, 221, rfl⟩
abbrev main_v88 : Ref sig .tc := ⟨.hbm, 222, rfl⟩
abbrev main_cst_15 : Ref sig .tc := ⟨.hbm, 223, rfl⟩
abbrev main_v89 : Ref sig .tc := ⟨.hbm, 224, rfl⟩
abbrev main_v90 : Ref sig .tc := ⟨.hbm, 225, rfl⟩
abbrev main_v91 : Ref sig .tc := ⟨.hbm, 226, rfl⟩
abbrev main_v92 : Ref sig .tc := ⟨.hbm, 227, rfl⟩
abbrev main_v93 : Ref sig .tc := ⟨.hbm, 228, rfl⟩
abbrev main_v94 : Ref sig .tc := ⟨.hbm, 229, rfl⟩
abbrev main_v95 : Ref sig .tc := ⟨.hbm, 230, rfl⟩
abbrev main_v96 : Ref sig .tc := ⟨.hbm, 231, rfl⟩
abbrev main_v97 : Ref sig .tc := ⟨.hbm, 232, rfl⟩
abbrev main_v98 : Ref sig .tc := ⟨.hbm, 233, rfl⟩
abbrev main_v99 : Ref sig .tc := ⟨.hbm, 234, rfl⟩
abbrev main_v100 : Ref sig .tc := ⟨.hbm, 235, rfl⟩
abbrev main_call7_cst : Ref sig .tc := ⟨.hbm, 236, rfl⟩
abbrev main_call7_v0 : Ref sig .tc := ⟨.hbm, 237, rfl⟩
abbrev main_v101 : Ref sig .tc := ⟨.hbm, 238, rfl⟩
abbrev main_cst_16 : Ref sig .tc := ⟨.hbm, 239, rfl⟩
abbrev main_v102 : Ref sig .tc := ⟨.hbm, 240, rfl⟩
abbrev main_v103 : Ref sig .tc := ⟨.hbm, 241, rfl⟩
abbrev main_v104 : Ref sig .tc := ⟨.hbm, 242, rfl⟩
abbrev main_v105 : Ref sig .tc := ⟨.hbm, 243, rfl⟩
abbrev main_v106 : Ref sig .tc := ⟨.hbm, 244, rfl⟩
abbrev main_v107 : Ref sig .tc := ⟨.hbm, 245, rfl⟩
abbrev main_v108 : Ref sig .tc := ⟨.hbm, 246, rfl⟩
abbrev main_cst_17 : Ref sig .tc := ⟨.hbm, 247, rfl⟩
abbrev main_v109 : Ref sig .tc := ⟨.hbm, 248, rfl⟩
abbrev main_v110 : Ref sig .tc := ⟨.hbm, 249, rfl⟩
abbrev main_v111 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_v115 : Ref sig .tc := ⟨.hbm, 254, rfl⟩
abbrev main_v116 : Ref sig .tc := ⟨.hbm, 255, rfl⟩
abbrev main_v117 : Ref sig .tc := ⟨.hbm, 256, rfl⟩
abbrev main_v118 : Ref sig .tc := ⟨.hbm, 257, rfl⟩
abbrev main_v119 : Ref sig .tc := ⟨.hbm, 258, rfl⟩
abbrev main_v120 : Ref sig .tc := ⟨.hbm, 259, rfl⟩
abbrev main_v121 : Ref sig .tc := ⟨.hbm, 260, rfl⟩

abbrev nD : Nat := 1
abbrev τ : Topo := Topo.v7x

variable {F : FTy → Type} [FloatOps F]
-- ==== Proof.KernelParts.lean ====
/- What the frame of the kernel is stated over: the arrays as the region finds them, each window's block, and the body's
   scratch, semaphores and operand in HBM. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What the host operations before the region write. -/
def written : List (Ref sig .tc) := [main_v0, main_v1, main_v2, main_v3, main_v4, main_v5, main_v6, main_v7, main_v8, main_v9, main_v10, main_v11, main_v12, main_v13, main_v14, main_v15]

/-- An array that no host operation before the region writes is found as launched. -/
theorem V_unwritten (c : Dev nD) {b : Ref sig .tc} (hb : ∀ r ∈ written, b ≠ r) : V m c b = m ((c : Thread nD τ).loc b) :=
  StableHlo.after_of_forall_not_mem (b := Proc.devRef .tc b) _ _ (List.forall_iff_forall_mem.mp (by
    simp only [hostOps0, List.Forall, StableHlo.binary_writes, StableHlo.reshape_writes, Finset.mem_singleton]
    repeat' apply And.intro
    all_goals exact StableHlo.devRef_ne_of_ne (hb _ (by decide))))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

set_option maxHeartbeats 1620000 in
/-- A run that ends with the windows' arrays as the proof data say, and every other array as the region found it, ends with the
    arguments as launched: an argument that a window stages is an input, and no host operation writes an argument. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨((h c).2 main_arg0 (Pipeline.mem_restRefs_of main_arg0 (by decide) (by decide))).trans (V_unwritten m c (b := main_arg0) (by decide)),
      ((h c).2 main_arg1 (Pipeline.mem_restRefs_of main_arg1 (by decide) (by decide))).trans (V_unwritten m c (b := main_arg1) (by decide)),
      ((h c).2 main_arg2 (Pipeline.mem_restRefs_of main_arg2 (by decide) (by decide))).trans (V_unwritten m c (b := main_arg2) (by decide)),
      ((h c).2 main_arg3 (Pipeline.mem_restRefs_of main_arg3 (by decide) (by decide))).trans (V_unwritten m c (b := main_arg3) (by decide)),
      ((h c).2 main_arg4 (Pipeline.mem_restRefs_of main_arg4 (by decide) (by decide))).trans (V_unwritten m c (b := main_arg4) (by decide)),
      (Pipeline.RDat.FramePost.arr_in h c 0 rfl).trans ((hA c 0).trans (V_unwritten m c (b := main_arg5) (by decide))),
      ((h c).2 main_arg6 (Pipeline.mem_restRefs_of main_arg6 (by decide) (by decide))).trans (V_unwritten m c (b := main_arg6) (by decide)),
      ((h c).2 main_arg7 (Pipeline.mem_restRefs_of main_arg7 (by decide) (by decide))).trans (V_unwritten m c (b := main_arg7) (by decide)),
      ((h c).2 main_arg8 (Pipeline.mem_restRefs_of main_arg8 (by decide) (by decide))).trans (V_unwritten m c (b := main_arg8) (by decide)),
      (Pipeline.RDat.FramePost.arr_in h c 4 rfl).trans ((hA c 4).trans (V_unwritten m c (b := main_arg9) (by decide))),
      ((h c).2 main_arg10 (Pipeline.mem_restRefs_of main_arg10 (by decide) (by decide))).trans (V_unwritten m c (b := main_arg10) (by decide)),
      ((h c).2 main_arg11 (Pipeline.mem_restRefs_of main_arg11 (by decide) (by decide))).trans (V_unwritten m c (b := main_arg11) (by decide)),
      ((h c).2 main_arg12 (Pipeline.mem_restRefs_of main_arg12 (by decide) (by decide))).trans (V_unwritten m c (b := main_arg12) (by decide)),
      (Pipeline.RDat.FramePost.arr_in h c 8 rfl).trans ((hA c 8).trans (V_unwritten m c (b := main_arg13) (by decide))),
      ((h c).2 main_arg14 (Pipeline.mem_restRefs_of main_arg14 (by decide) (by decide))).trans (V_unwritten m c (b := main_arg14) (by decide)),
      ((h c).2 main_arg15 (Pipeline.mem_restRefs_of main_arg15 (by decide) (by decide))).trans (V_unwritten m c (b := main_arg15) (by decide)),
      ((h c).2 main_arg16 (Pipeline.mem_restRefs_of main_arg16 (by decide) (by decide))).trans (V_unwritten m c (b := main_arg16) (by decide)),
      (Pipeline.RDat.FramePost.arr_in h c 12 rfl).trans ((hA c 12).trans (V_unwritten m c (b := main_arg17) (by decide))),
      ((h c).2 main_arg18 (Pipeline.mem_restRefs_of main_arg18 (by decide) (by decide))).trans (V_unwritten m c (b := main_arg18) (by decide)),
      ((h c).2 main_arg19 (Pipeline.mem_restRefs_of main_arg19 (by decide) (by decide))).trans (V_unwritten m c (b := main_arg19) (by decide)),
      ((h c).2 main_arg20 (Pipeline.mem_restRefs_of main_arg20 (by decide) (by decide))).trans (V_unwritten m c (b := main_arg20) (by decide)),
      (Pipeline.RDat.FramePost.arr_in h c 16 rfl).trans ((hA c 16).trans (V_unwritten m c (b := main_arg21) (by decide))),
      ((h c).2 main_arg22 (Pipeline.mem_restRefs_of main_arg22 (by decide) (by decide))).trans (V_unwritten m c (b := main_arg22) (by decide)),
      (Pipeline.RDat.FramePost.arr_in h c 17 rfl).trans ((hA c 17).trans (V_unwritten m c (b := main_arg23) (by decide))),
      ((h c).2 main_arg24 (Pipeline.mem_restRefs_of main_arg24 (by decide) (by decide))).trans (V_unwritten m c (b := main_arg24) (by decide)),
      (Pipeline.RDat.FramePost.arr_in h c 18 rfl).trans ((hA c 18).trans (V_unwritten m c (b := main_arg25) (by decide))),
      ((h c).2 main_arg26 (Pipeline.mem_restRefs_of main_arg26 (by decide) (by decide))).trans (V_unwritten m c (b := main_arg26) (by decide))⟩) h

/-! ## The kernel body on any staging memrefs: a subtype the run finds -/

/-- Each window's current staging memref at point `t`, spelled as the pipeline passes it (`bodyAt0`), and its wholeness. -/
abbrev ms0_0 (t : Fin cfg0.N) : Memref sig .tc .vmem S128x128 .f32 := win0_0.stage (cfg0.slots t 0)
abbrev hs0_0 (t : Fin cfg0.N) : (ms0_0 t).IsWhole := hstage0_0 0
abbrev ms0_1 (t : Fin cfg0.N) : Memref sig .tc .vmem S1x128 .f32 := win0_1.stage (cfg0.slots t 1)
abbrev hs0_1 (t : Fin cfg0.N) : (ms0_1 t).IsWhole := hstage0_1 0
abbrev ms0_2 (t : Fin cfg0.N) : Memref sig .tc .vmem S1x128 .f32 := win0_2.stage (cfg0.slots t 2)
abbrev hs0_2 (t : Fin cfg0.N) : (ms0_2 t).IsWhole := hstage0_2 0
abbrev ms0_3 (t : Fin cfg0.N) : Memref sig .tc .vmem S1x128 .f32 := win0_3.stage (cfg0.slots t 3)
abbrev hs0_3 (t : Fin cfg0.N) : (ms0_3 t).IsWhole := hstage0_3 0
abbrev ms0_4 (t : Fin cfg0.N) : Memref sig .tc .vmem S128x128 .f32 := win0_4.stage (cfg0.slots t 4)
abbrev hs0_4 (t : Fin cfg0.N) : (ms0_4 t).IsWhole := hstage0_4 0
abbrev ms0_5 (t : Fin cfg0.N) : Memref sig .tc .vmem S1x128 .f32 := win0_5.stage (cfg0.slots t 5)
abbrev hs0_5 (t : Fin cfg0.N) : (ms0_5 t).IsWhole := hstage0_5 0
abbrev ms0_6 (t : Fin cfg0.N) : Memref sig .tc .vmem S1x128 .f32 := win0_6.stage (cfg0.slots t 6)
abbrev hs0_6 (t : Fin cfg0.N) : (ms0_6 t).IsWhole := hstage0_6 0
abbrev ms0_7 (t : Fin cfg0.N) : Memref sig .tc .vmem S1x128 .f32 := win0_7.stage (cfg0.slots t 7)
abbrev hs0_7 (t : Fin cfg0.N) : (ms0_7 t).IsWhole := hstage0_7 0
abbrev ms0_8 (t : Fin cfg0.N) : Memref sig .tc .vmem S128x128 .f32 := win0_8.stage (cfg0.slots t 8)
abbrev hs0_8 (t : Fin cfg0.N) : (ms0_8 t).IsWhole := hstage0_8 0
abbrev ms0_9 (t : Fin cfg0.N) : Memref sig .tc .vmem S1x128 .f32 := win0_9.stage (cfg0.slots t 9)
abbrev hs0_9 (t : Fin cfg0.N) : (ms0_9 t).IsWhole := hstage0_9 0
abbrev ms0_10 (t : Fin cfg0.N) : Memref sig .tc .vmem S1x128 .f32 := win0_10.stage (cfg0.slots t 10)
abbrev hs0_10 (t : Fin cfg0.N) : (ms0_10 t).IsWhole := hstage0_10 0
abbrev ms0_11 (t : Fin cfg0.N) : Memref sig .tc .vmem S1x128 .f32 := win0_11.stage (cfg0.slots t 11)
abbrev hs0_11 (t : Fin cfg0.N) : (ms0_11 t).IsWhole := hstage0_11 0
abbrev ms0_12 (t : Fin cfg0.N) : Memref sig .tc .vmem S128x128 .f32 := win0_12.stage (cfg0.slots t 12)
abbrev hs0_12 (t : Fin cfg0.N) : (ms0_12 t).IsWhole := hstage0_12 0
abbrev ms0_13 (t : Fin cfg0.N) : Memref sig .tc .vmem S1x128 .f32 := win0_13.stage (cfg0.slots t 13)
abbrev hs0_13 (t : Fin cfg0.N) : (ms0_13 t).IsWhole := hstage0_13 0
abbrev ms0_14 (t : Fin cfg0.N) : Memref sig .tc .vmem S1x128 .f32 := win0_14.stage (cfg0.slots t 14)
abbrev hs0_14 (t : Fin cfg0.N) : (ms0_14 t).IsWhole := hstage0_14 0
abbrev ms0_15 (t : Fin cfg0.N) : Memref sig .tc .vmem S1x128 .f32 := win0_15.stage (cfg0.slots t 15)
abbrev hs0_15 (t : Fin cfg0.N) : (ms0_15 t).IsWhole := hstage0_15 0
abbrev ms0_16 (t : Fin cfg0.N) : Memref sig .tc .vmem S128x16 .f32 := win0_16.stage (cfg0.slots t 16)
abbrev hs0_16 (t : Fin cfg0.N) : (ms0_16 t).IsWhole := hstage0_16 0
abbrev ms0_17 (t : Fin cfg0.N) : Memref sig .tc .vmem S128x16 .f32 := win0_17.stage (cfg0.slots t 17)
abbrev hs0_17 (t : Fin cfg0.N) : (ms0_17 t).IsWhole := hstage0_17 0
abbrev ms0_18 (t : Fin cfg0.N) : Memref sig .tc .vmem S128x16 .f32 := win0_18.stage (cfg0.slots t 18)
abbrev hs0_18 (t : Fin cfg0.N) : (ms0_18 t).IsWhole := hstage0_18 0
abbrev ms0_19 (t : Fin cfg0.N) : Memref sig .tc .vmem S1x16 .f32 := win0_19.stage (cfg0.slots t 19)
abbrev hs0_19 (t : Fin cfg0.N) : (ms0_19 t).IsWhole := hstage0_19 0
abbrev ms0_20 (t : Fin cfg0.N) : Memref sig .tc .vmem S256x16 .f32 := win0_20.stage (cfg0.slots t 20)
abbrev hs0_20 (t : Fin cfg0.N) : (ms0_20 t).IsWhole := hstage0_20 0
/-- The scratch operands: whole scoped buffers of the kernel's own, passed beside the windows. -/
abbrev scM0_0 : Memref sig .tc .vmem S4x1024x8x128 .f32 := Memref.whole cc0_scratch0
abbrev scM0_1 : Memref sig .tc .vmem S16384x128 .f32 := Memref.whole cc0_scratch1
abbrev scM0_2 : Memref sig .tc .vmem S256x128 .f32 := Memref.whole cc0_scratch2
/-- The operands left in HBM that the body copies into scratch itself, whole. -/
abbrev hbM0_0 : Memref sig .tc .hbm S16384x8x128 .f32 := Memref.whole main_v0
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 21, SemLoc.dma 22, SemLoc.dma 23, SemLoc.dma 24] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_v0))) := by
  rw [Pipeline.ΦD_eq, scopedRest0_eq, ownSems00_eq, hbmPts0_eq]; simp only [scM0_0, scM0_1, scM0_2, owns_whole]; try rfl

end Cert.Kernel.Whole

end
-- ==== Proof.KernelRun.lean ====
/- The kernel's body runs to its end, whatever its output's buffer and its scratch hold. -/
module

public import proofs.«01_k».proof.Proof.KernelParts

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1960000 in set_option sl_exec.dmaWindow true in set_option sl_exec.dmaWindowSet true in
/-- The body's triple: on whole staging memrefs — the inputs' at their contents,
    the FORGOTTEN outputs' (20) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg1 : Memref sig .tc .vmem S128x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S128x16 .f32) (harg17 : arg17.IsWhole) (arg18 : Memref sig .tc .vmem S128x16 .f32) (harg18 : arg18.IsWhole) (arg19 : Memref sig .tc .vmem S128x16 .f32) (harg19 : arg19.IsWhole) (arg20 : Memref sig .tc .vmem S1x16 .f32) (harg20 : arg20.IsWhole) (arg21 : Memref sig .tc .vmem S256x16 .f32) (harg21 : arg21.IsWhole) (arg22 : Memref sig .tc .vmem S4x1024x8x128 .f32) (harg22 : arg22.IsWhole) (arg23 : Memref sig .tc .vmem S16384x128 .f32) (harg23 : arg23.IsWhole) (arg24 : Memref sig .tc .vmem S256x128 .f32) (harg24 : arg24.IsWhole)
    (x0 : Vec F S128x128 .f32) (x1 : Vec F S1x128 .f32) (x2 : Vec F S1x128 .f32) (x3 : Vec F S1x128 .f32) (x4 : Vec F S128x128 .f32) (x5 : Vec F S1x128 .f32) (x6 : Vec F S1x128 .f32) (x7 : Vec F S1x128 .f32) (x8 : Vec F S128x128 .f32) (x9 : Vec F S1x128 .f32) (x10 : Vec F S1x128 .f32) (x11 : Vec F S1x128 .f32) (x12 : Vec F S128x128 .f32) (x13 : Vec F S1x128 .f32) (x14 : Vec F S1x128 .f32) (x15 : Vec F S1x128 .f32) (x16 : Vec F S128x16 .f32) (x17 : Vec F S128x16 .f32) (x18 : Vec F S128x16 .f32) (x19 : Vec F S1x16 .f32) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ (∃ W', owes (c : Thread nD τ) 0 W')) -∗ K ⟨⟩))
          ⊢ wp frame (wpE (defs₀ (F := F)) Variants.none c none) Set.univ (cc0__tree_cnn_kernel (Memref.whole main_v0) (Memref.isWhole_whole _) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 cc0_scratch3) K := by
    intro W K
    simp only [cc0__tree_cnn_kernel_eq_skeleton]; unfold cc0__tree_cnn_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%ds0, %fs0, -, HS0⟩, ⟨%ds1, %fs1, -, HS1⟩, ⟨%ds2, %fs2, -, HS2⟩, Hq0, Hq1, Hq2, Hq3, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _; isplitr; swap; · iexact H20
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hq1]; · iexact Hq1
    isplitl [Hq2]; · iexact Hq2
    isplitl [Hq3]; · iexact Hq3
    isplitl [Hh0]; · iexact Hh0
    iexists _; iexact HW

end Cert.Kernel.Whole

end
-- ==== Proof.KernelFrame.lean ====
/- The frame of the kernel: its body meets the pipeline's obligation with the output's contents left unnamed, so every fair
   run ends with the arguments as they were and every counter at zero. -/
module

public import proofs.«01_k».proof.Proof.KernelRun
public import Idealize.ShloMosaic.Lib.Claim

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (20): nothing reads what the kernel leaves in them, so nothing
    of it is named (Lib/Pipeline/Dat.lean `Dat.toRForget`). -/
def forgets0 : Fin 21 → Bool := fun w => w.val == 20

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, h⟩ => Pipeline.Dat.unnamed (cfg := cfg0) ⟨20, h⟩ t
    | ⟨_ + 21, h⟩ => absurd h (Nat.not_lt.2 (Nat.le_add_left _ _))
  Φ _ := Pipeline.ΦD osem0 spec0 H0 (V m) c
  q _ := fullShare
  owed _ := 0

/-- The proof data's arrays are as the region finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl) (fun t => by rw [after0_19]; unfold Dat.blockOf iblk; rw [A_eq]; try rfl) t d).trans
    (by unfold Dat.fetched Dat.blockOf iblk; rw [A_eq]; try rfl)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ (∃ d, owns (c : Thread nD τ) (ms0_20 t) fullShare d))

set_option maxHeartbeats 2400000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (V m c main_v0)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hq3]; · iexact Hq3
  isplitl [Hh0]; · iexact Hh0
  isplitl [HW]; · iexact HW
  iintro ⟨H0, H1, H2, H3, H4, H5, H6, H7, H8, H9, H10, H11, H12, H13, H14, H15, H16, H17, H18, H19, H20, HS0, HS1, HS2, Hq0, Hq1, Hq2, Hq3, Hh0, ⟨%W', HW'⟩⟩
  isplitl [HS0 HS1 HS2 Hg Hq0 Hq1 Hq2 Hq3 Hh0]
  · isplitl [HS0 HS1 HS2]
    · isplitl [HS0]; · iexact HS0
      isplitl [HS1]; · iexact HS1
      iexact HS2
    isplitl [Hg]
    · iexact Hg
    isplitl [Hq0 Hq1 Hq2 Hq3]
    · isplitl [Hq0]; · iexact Hq0
      isplitl [Hq1]; · iexact Hq1
      isplitl [Hq2]; · iexact Hq2
      iexact Hq3
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- For any values, from any memory with zero counters: every weakly fair execution of @main on the
    TensorCores terminates, and every final state has every INPUT array of the pipeline unchanged, nothing stated of the
    FORGOTTEN outputs (window 20) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (fun c => (dats m 0 c).toRForget forgets0) (A_eq m) (run_main m ρ)

/-- The frame: the arguments end unchanged, and every counter at zero, over any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  θ_run_and (unchanged m ρ) ((θ_run defs _ _).mono (fun _ h => h.2) (run_main_quiescent m ρ))

end Cert.Kernel.Whole

end
-- ==== Proof.Setup.lean ====
/- What the run of the idealized kernel's body and the launch share: the body's scratch buffers and HBM operand, its
   own semaphores, and the invariant that hands them to the body. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Tree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host operations up to the region, for a body with transfers of its own. -/
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's scratch: the four slots, the first layer's activations, the tree sums. -/
abbrev slotsM : Memref sig .tc .vmem S4x1024x8x128 .f32 := Memref.whole cc0_scratch0
abbrev actsM : Memref sig .tc .vmem S16384x128 .f32 := Memref.whole cc0_scratch1
abbrev treesM : Memref sig .tc .vmem S256x128 .f32 := Memref.whole cc0_scratch2

/-- The leaves, left in HBM and copied chunk by chunk. -/
abbrev leavesM : Memref sig .tc .hbm S16384x8x128 .f32 := Memref.whole main_v0

/-- A memref's buffer on a core: its contents type, and it held whole at given contents. -/
abbrev MBuf (c : Dev nD) {sp : Space} {S : Shape} {e : EltTy} (M : Memref sig .tc sp S e) : Type :=
  Buf (Elt F) (M.view.loc (c : Thread nD τ))
abbrev held (c : Dev nD) {sp : Space} {S : Shape} {e : EltTy} (M : Memref sig .tc sp S e) (f : MBuf (F := F) c M) : sProp 𝕄 :=
  M.view.loc (c : Thread nD τ) ↦{fullShare} f

/-- The body's own semaphores: one per slot. -/
abbrev slotSem : Fin 4 → SemLoc sig :=
  fun j => (![SemLoc.dma 21, SemLoc.dma 22, SemLoc.dma 23, SemLoc.dma 24] : Fin 4 → SemLoc sig) j

theorem slotSem_facts : Pipeline.OwnSemFacts spec0 slotSem := by decide

theorem slotSems_eq (c : Dev nD) :
    (Pipeline.ownSems0 (Ix := Unit) (Name := ℕ) (U := Pipeline.UD sig nD τ) (Lvl := ℕ) (Val := Elt F) (τ := τ) slotSem c : sProp 𝕄)
      = iprop(semVal ((c : Thread nD τ), SemLoc.dma 21) 0 ∗ semVal ((c : Thread nD τ), SemLoc.dma 22) 0
          ∗ semVal ((c : Thread nD τ), SemLoc.dma 23) 0 ∗ semVal ((c : Thread nD τ), SemLoc.dma 24) 0) := by
  rw [Pipeline.ownSems0_eq_of_list c slotSem [0, 1, 2, 3] (by decide) (by decide)]; rfl

/-- The arrays the body copies from by itself. -/
def leavesRef : Finset (Ref sig .tc) := {main_v0}

theorem leavesRef_sub : leavesRef ⊆ Pipeline.restRefs sig spec0 := by decide

theorem leaves_eq (c : Dev nD) :
    (bigSep leavesRef (fun b => ((c : Thread nD τ).loc b) ↦{fullShare} V m c b) : sProp 𝕄)
      = iprop(held c leavesM (V m c main_v0)) := by
  rw [BI.bigSep_eq_bigSepL_of_eq [main_v0] (by decide) (by decide)]; rfl

/-- The invariant, conjunct by conjunct. -/
theorem invariant_eq (c : Dev nD) :
    (Pipeline.ΦD slotSem spec0 leavesRef (V m) c : sProp 𝕄)
      = iprop(iprop((∃ d, owns (c : Thread nD τ) slotsM fullShare d) ∗ (∃ d, owns (c : Thread nD τ) actsM fullShare d)
            ∗ (∃ d, owns (c : Thread nD τ) treesM fullShare d))
          ∗ (∃ r, prngReg c r)
          ∗ iprop(semVal ((c : Thread nD τ), SemLoc.dma 21) 0 ∗ semVal ((c : Thread nD τ), SemLoc.dma 22) 0
              ∗ semVal ((c : Thread nD τ), SemLoc.dma 23) 0 ∗ semVal ((c : Thread nD τ), SemLoc.dma 24) 0)
          ∗ iprop(held c leavesM (V m c main_v0))) := by
  rw [Pipeline.ΦD_eq, scopedRest0_eq, slotSems_eq, leaves_eq]; simp only [slotsM, actsM, treesM, owns_whole]; try rfl

end Cert.KernelIdeal.Tree

end
-- ==== Proof.Run.lean ====
/- The run of the idealized kernel's body. -/
module

public import proofs.«01_k».proof.Proof.Setup

@[expose] public section

set_option maxRecDepth 16384

noncomputable section

namespace Cert.KernelIdeal.Tree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
set_option sl_exec.dmaWindow true in
set_option sl_exec.dmaWindowSet true in
/-- The body on whole memrefs runs to its end, and leaves the scores' buffer at contents the run finds. -/
def kernelRun (c : Dev nD)
    (arg1 : Memref sig .tc .vmem S128x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S128x16 .f32) (harg17 : arg17.IsWhole) (arg18 : Memref sig .tc .vmem S128x16 .f32) (harg18 : arg18.IsWhole) (arg19 : Memref sig .tc .vmem S128x16 .f32) (harg19 : arg19.IsWhole) (arg20 : Memref sig .tc .vmem S1x16 .f32) (harg20 : arg20.IsWhole) (arg21 : Memref sig .tc .vmem S256x16 .f32) (harg21 : arg21.IsWhole) (arg22 : Memref sig .tc .vmem S4x1024x8x128 .f32) (harg22 : arg22.IsWhole) (arg23 : Memref sig .tc .vmem S16384x128 .f32) (harg23 : arg23.IsWhole) (arg24 : Memref sig .tc .vmem S256x128 .f32) (harg24 : arg24.IsWhole)
    (x1 : Vec F S128x128 .f32) (x2 : Vec F S1x128 .f32) (x3 : Vec F S1x128 .f32) (x4 : Vec F S1x128 .f32) (x5 : Vec F S128x128 .f32) (x6 : Vec F S1x128 .f32) (x7 : Vec F S1x128 .f32) (x8 : Vec F S1x128 .f32) (x9 : Vec F S128x128 .f32) (x10 : Vec F S1x128 .f32) (x11 : Vec F S1x128 .f32) (x12 : Vec F S1x128 .f32) (x13 : Vec F S128x128 .f32) (x14 : Vec F S1x128 .f32) (x15 : Vec F S1x128 .f32) (x16 : Vec F S1x128 .f32) (x17 : Vec F S128x16 .f32) (x18 : Vec F S128x16 .f32) (x19 : Vec F S128x16 .f32) (x20 : Vec F S1x16 .f32)
    (leaves : MBuf (F := F) c leavesM) (g21 : MBuf (F := F) c arg21) (g22 : MBuf (F := F) c arg22) (g23 : MBuf (F := F) c arg23) (g24 : MBuf (F := F) c arg24) :
    { out : MBuf (F := F) c arg21 // ∀ (W : Waits sig Unit) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
            ∗ held c arg21 g21 ∗ held c arg22 g22 ∗ held c arg23 g23 ∗ held c arg24 g24
            ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0
            ∗ held c leavesM leaves ∗ owes (c : Thread nD τ) 0 W
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
                ∗ held c arg21 out ∗ (∃ g, held c arg22 g) ∗ (∃ g, held c arg23 g) ∗ (∃ g, held c arg24 g)
                ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0
                ∗ held c leavesM leaves ∗ (∃ W', owes (c : Thread nD τ) 0 W')) -∗ K PUnit.unit))
          ⊢ wp frame (wpE (defs₀ (F := F)) Variants.none c none) Set.univ (cc0__tree_cnn_kernel (Memref.whole main_v0) (Memref.isWhole_whole _) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 cc0_scratch3) K } := by
    refine ⟨?_, fun W K => ?_⟩
    case refine_2 =>
    simp only [cc0__tree_cnn_kernel_eq_skeleton]; unfold cc0__tree_cnn_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, H21, H22, H23, H24, Hq0, Hq1, Hq2, Hq3, Hx, HW, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]; · iexact H21
    isplitl [H22]; · iexists _; iexact H22
    isplitl [H23]; · iexists _; iexact H23
    isplitl [H24]; · iexists _; iexact H24
    isplitl [Hq0]; · iexact Hq0
    isplitl [Hq1]; · iexact Hq1
    isplitl [Hq2]; · iexact Hq2
    isplitl [Hq3]; · iexact Hq3
    isplitl [Hx]; · iexact Hx
    iexists _; iexact HW

end Cert.KernelIdeal.Tree

end
-- ==== Proof.Slots.lean ====
/- Reading a slot of the ring after copies into slots; reading a buffer stored block of rows by block of rows; and the
   idealized kernel's result as one expression of what it is given. -/
module

public import proofs.«01_k».proof.Proof.Setup
public import Idealize.ShloMosaic.Lib.Pipeline.Value
public import Idealize.ShloMosaic.Lib.WritesUnit
public import Idealize.ShloMosaic.Lib.Pointwise

@[expose] public section

set_option maxRecDepth 16384

noncomputable section

namespace Cert.KernelIdeal.Tree

open Idealize.ShloMosaic Idealize.ShloMosaic.TcCoe Idealize.ShloMosaic.Tactic
open Cert.KernelIdeal Cert.KernelIdeal.Gen

variable {F : FTy → Type} [FloatOps F]

/-! ## Loads -/

section Loads

variable {sg : RefSig} {κ : Kind} {sp : Space} {s : Shape} {e : EltTy} {Val : EltTy → Type}

/-- A load of a whole memref reads what it holds. -/
theorem load_whole {M : Memref sg κ sp s e} (hM : M.IsWhole) {off : Fin s.rank → ℕ} (inb : ∀ a, off a + s.size a ≤ s.size a)
    (x : s.Idx → Val e) : M.view.readAt Val (Rect.unit off s.size inb).toLoadRect (hM.unread x) = x := by
  funext y
  rw [View.readAt_apply, hM.read_unread]
  exact congrArg x (funext fun a => Fin.ext (by
    show off a + 1 * (y a).val = (y a).val
    have := inb a; omega))

/-- A buffer stored whole reads back what was stored. -/
theorem read_store_whole (v : View sg κ sp s e) (f : v.ty.Contents Val) {off : Fin s.rank → ℕ}
    (inb : ∀ a, off a + s.size a ≤ s.size a) (w : s.Idx → Val e) :
    v.read Val (v.writes Val f [⟨Rect.unit off s.size inb, w⟩]) = w := by
  funext y
  refine (congrArg _ ?_).trans (View.read_slice_write_emb (v := v) (Rect.unit off s.size inb) f w (x := y) (Finset.mem_univ _))
  exact funext fun a => Fin.ext (by
    show (y a).val = off a + 1 * (y a).val
    have := inb a; omega)

/-- After a copy into a slot, a load of the slot reads the copied block. -/
theorem load_slot_same {s' : Shape} (M : Memref sg κ sp s e) (r : Rect s) (hr : ∀ a, r.stride a = 1)
    (hq : r.shape.Squeezes s') (hc : r.shape.ShapeCasts s') (hc' : s'.ShapeCasts r.shape) (f : M.view.ty.Contents Val)
    (d : s'.Idx → Val e) :
    M.view.readAt Val r.toLoadRect (((M.slice r hr).squeeze s' hq).view.write Val f d Finset.univ)
      = shapeCast r.shape d hc' := by
  have h := View.read_write_univ (v := ((M.slice r hr).squeeze s' hq).view) f d
  rw [Memref.read_squeeze_slice M r hr hq hc] at h
  exact (shapeCast_shapeCast _ hc hc').symm.trans (congrArg (fun w => shapeCast r.shape w hc') h)

/-- A load of a slot does not see a copy into a slot apart from it on some axis. -/
theorem load_slot_other {s' : Shape} (M : Memref sg κ sp s e) (r r' : Rect s) (hr : ∀ a, r'.stride a = 1)
    (hq : r'.shape.Squeezes s') (a : Fin s.rank) (h1 : r.stride a = 1) (h : r.off a + r.size a ≤ r'.off a ∨ r'.off a + r'.size a ≤ r.off a)
    (f : M.view.ty.Contents Val) (d : s'.Idx → Val e) :
    M.view.readAt Val r.toLoadRect (((M.slice r' hr).squeeze s' hq).view.write Val f d Finset.univ)
      = M.view.readAt Val r.toLoadRect f := by
  funext y
  rw [View.readAt_apply, View.readAt_apply, View.read_apply, View.read_apply, View.write_of_not_mem]
  intro hm
  have hm' : M.view.emb (r.toLoadRect.idx y) ∈ ((M.slice r' hr).squeeze s' hq).view.set := hm
  rw [Memref.set_view_squeeze] at hm'
  obtain ⟨z, -, hz⟩ := Finset.mem_map.mp hm'
  have hz' : r'.emb z = r.toLoadRect.idx y := M.view.emb.injective hz
  have hv := congrArg (fun i => (i a).val) hz'
  have e1 : r'.off a + r'.stride a * (z a).val = r.off a + r.stride a * (y a).val := hv
  have hza : (z a).val < r'.size a := (z a).isLt
  have hya : (y a).val < r.size a := (y a).isLt
  rw [hr a, h1] at e1
  omega

end Loads

/-! ## Blocks of rows -/

section Blocks

variable {sg : RefSig} {κ : Kind} {sp : Space} {e : EltTy} {Val : EltTy → Type}
variable {α : Type} {R B : ℕ} [NeZero B]

/-- Sixteen blocks of `B` rows, one under the other. -/
def stacked (R : ℕ) (p : Fin 16 → (⟨2, ![B, 128]⟩ : Shape).Idx → α) : (⟨2, ![R, 128]⟩ : Shape).Idx → α :=
  fun y => p (Fin.ofNat 16 ((y 0).val / B)) (ix2 (Fin.ofNat B (y 0).val) (y 1))

/-- The stores of the first `n` blocks, the newest first. -/
def blockStores (inb : ∀ (k : Fin 16) (a : Fin 2), (![B * k.val, 0] : Fin 2 → ℕ) a + (![B, 128] : Fin 2 → ℕ) a ≤ (![R, 128] : Fin 2 → ℕ) a)
    (p : Fin 16 → (⟨2, ![B, 128]⟩ : Shape).Idx → Val e) :
    (n : ℕ) → n ≤ 16 → List (View.Piece Val (⟨2, ![R, 128]⟩ : Shape) e)
  | 0, _ => []
  | n + 1, h => ⟨Rect.unit (s := ⟨2, ![R, 128]⟩) ![B * n, 0] ![B, 128] (inb ⟨n, h⟩), p ⟨n, h⟩⟩ ::
      blockStores inb p n (Nat.le_of_succ_le h)

theorem read_blockStores (v : View sg κ sp (⟨2, ![R, 128]⟩ : Shape) e) (f : v.ty.Contents Val)
    (inb : ∀ (k : Fin 16) (a : Fin 2), (![B * k.val, 0] : Fin 2 → ℕ) a + (![B, 128] : Fin 2 → ℕ) a ≤ (![R, 128] : Fin 2 → ℕ) a)
    (p : Fin 16 → (⟨2, ![B, 128]⟩ : Shape).Idx → Val e) (y : (⟨2, ![R, 128]⟩ : Shape).Idx) :
    ∀ (n : ℕ) (h : n ≤ 16), (y 0).val < B * n → v.read Val (v.writes Val f (blockStores inb p n h)) y = stacked R p y
  | 0, _, h0 => by omega
  | n + 1, h, h0 => by
    have hB : 0 < B := Nat.pos_of_ne_zero (NeZero.ne B)
    by_cases hy : (y 0).val < B * n
    · refine (View.read_writes_cons_rows_of_not_mem v f _ _ _ y (o := B * n) (W := B) rfl rfl (Or.inl hy)).trans ?_
      exact read_blockStores v f inb p y n (Nat.le_of_succ_le h) hy
    · have hd : (y 0).val / B = n := by
        refine (Nat.div_eq_iff hB).mpr ⟨?_, ?_⟩
        · rw [Nat.mul_comm]; omega
        · rw [Nat.mul_succ, Nat.mul_comm] at h0; omega
      have hm : (y 0).val = B * n + (y 0).val % B := by
        have := Nat.div_add_mod (y 0).val B
        rw [hd] at this; omega
      refine (View.read_writes_cons_rows_of_mem v f _ _ _ y (o := B * n) (ix2 (Fin.ofNat B (y 0).val) (y 1)) rfl ?_ rfl).trans ?_
      · exact hm
      · have hk : (⟨n, h⟩ : Fin 16) = Fin.ofNat 16 ((y 0).val / B) := Fin.ext (by
          show n = (y 0).val / B % 16
          rw [hd, Nat.mod_eq_of_lt h])
        unfold stacked
        rw [← hk]
        rfl

/-- A buffer stored in sixteen blocks of rows, read whole, holds the blocks one under the other. -/
theorem readCov_blockStores [∀ e, Nonempty (Val e)] (hR : R = B * 16) (v : View sg κ sp (⟨2, ![R, 128]⟩ : Shape) e)
    (inb : ∀ (k : Fin 16) (a : Fin 2), (![B * k.val, 0] : Fin 2 → ℕ) a + (![B, 128] : Fin 2 → ℕ) a ≤ (![R, 128] : Fin 2 → ℕ) a)
    (p : Fin 16 → (⟨2, ![B, 128]⟩ : Shape).Idx → Val e)
    (inb' : ∀ a : Fin 2, (![0, 0] : Fin 2 → ℕ) a + (![R, 128] : Fin 2 → ℕ) a ≤ (![R, 128] : Fin 2 → ℕ) a) :
    v.readCov (blockStores inb p 16 (le_refl _)) (Rect.unit (s := ⟨2, ![R, 128]⟩) ![0, 0] ![R, 128] inb').toLoadRect = stacked R p := by
  funext y
  unfold View.readCov
  rw [View.readAt_apply]
  refine (congrArg _ ?_).trans (read_blockStores v v.junk inb p y 16 (le_refl _) ?_)
  · funext a
    fin_cases a
    · exact Fin.ext (by show 0 + 1 * (y 0).val = (y 0).val; omega)
    · exact Fin.ext (by show 0 + 1 * (y 1).val = (y 1).val; omega)
  · have : (y 0).val < R := (y 0).isLt
    omega

end Blocks

/-! ## The kernel's result -/

theorem chunk_inb (k : Fin 16) : ∀ a : Fin 3, (![1024 * k.val, 0, 0] : Fin 3 → ℕ) a + S1024x8x128.size a ≤ S16384x8x128.size a := by
  have := k.isLt
  intro a
  fin_cases a
  · show 1024 * k.val + 1024 ≤ 16384; omega
  · exact Nat.le_refl 8
  · exact Nat.le_refl 128

/-- The `k`-th chunk of the leaves. -/
def chunk (leaves : Vec F S16384x8x128 .f32) (k : Fin 16) : Vec F S1x1024x8x128 .f32 :=
  shapeCast S1x1024x8x128 (ReadAs.apply (Val := Elt F) ReadAs.same ((leavesM.slice (Rect.unit ![1024 * k.val, 0, 0] S1024x8x128.size (chunk_inb k))
    (fun _ => rfl)).view.read (Elt F) leaves)) shapeCasts_S1x1024x8x128_S1024x8x128.symm

/-- The first layer's linear map on a chunk's nodes. -/
def lin (leaves : Vec F S16384x8x128 .f32) (Wa : Vec F S128x128 .f32) (ba : Vec F S1x128 .f32) (k : Fin 16) : FVec F S1024x128 .f32 :=
  k0_pay12 (chunk leaves k) Wa ba

/-- The running column sums over the first `n` chunks. -/
def colSums (p : Fin 16 → FVec F S1024x128 .f32) : (n : ℕ) → n ≤ 16 → FVec F S1x128 .f32
  | 0, _ => k0_pay2
  | n + 1, h => k0_pay14 (colSums p n (Nat.le_of_succ_le h)) (p ⟨n, h⟩)

/-- The running column sums of squares over the first `n` chunks. -/
def colSquares (p : Fin 16 → FVec F S1024x128 .f32) : (n : ℕ) → n ≤ 16 → FVec F S1x128 .f32
  | 0, _ => k0_pay3
  | n + 1, h => k0_pay15 (colSquares p n (Nat.le_of_succ_le h)) (p ⟨n, h⟩)

/-- The first network's second linear layer, from the column sums of the first. -/
def nodes (s q : FVec F S1x128 .f32) (A : Vec F S16384x128 .f32) (x3 x4 : Vec F S1x128 .f32) (x5 : Vec F S128x128 .f32)
    (x6 : Vec F S1x128 .f32) : FVec F S16384x128 .f32 := k0_pay104 s q x3 x4 A x5 x6

/-- The pooled second level. -/
def pooled2 (s q : FVec F S1x128 .f32) (A : Vec F S16384x128 .f32) (x3 x4 : Vec F S1x128 .f32) (x5 : Vec F S128x128 .f32)
    (x6 x7 x8 : Vec F S1x128 .f32) : FVec F S256x128 .f32 :=
  k0_pay107 (k0_pay104 s q x3 x4 A x5 x6) (k0_pay105 s q x3 x4 A x5 x6) (k0_pay106 s q x3 x4 A x5 x6)
    (FloatOps.ofBits FTy.f32 0x3727C5AC#32) x7 x8

/-- The second network's output. -/
def top (s q : FVec F S1x128 .f32) (A : Vec F S16384x128 .f32) (x3 x4 : Vec F S1x128 .f32) (x5 : Vec F S128x128 .f32)
    (x6 x7 x8 : Vec F S1x128 .f32) (x9 : Vec F S128x128 .f32) (x10 x11 x12 : Vec F S1x128 .f32) (x13 : Vec F S128x128 .f32)
    (x14 x15 x16 : Vec F S1x128 .f32) : FVec F S256x128 .f32 :=
  k0_pay111
    (k0_pay108 (k0_pay104 s q x3 x4 A x5 x6) (k0_pay105 s q x3 x4 A x5 x6) (k0_pay106 s q x3 x4 A x5 x6)
      (FloatOps.ofBits FTy.f32 0x3727C5AC#32) x7 x8 x9 x10)
    (k0_pay109 (k0_pay104 s q x3 x4 A x5 x6) (k0_pay105 s q x3 x4 A x5 x6) (k0_pay106 s q x3 x4 A x5 x6)
      (FloatOps.ofBits FTy.f32 0x3727C5AC#32) x7 x8 x9 x10)
    (k0_pay110 (k0_pay104 s q x3 x4 A x5 x6) (k0_pay105 s q x3 x4 A x5 x6) (k0_pay106 s q x3 x4 A x5 x6)
      (FloatOps.ofBits FTy.f32 0x3727C5AC#32) x7 x8 x9 x10 x11) x12 x13 x14 x15 x16

/-- The scores, from the leaves and the parameters. -/
def scores (leaves : Vec F S16384x8x128 .f32) (x1 : Vec F S128x128 .f32) (x2 x3 x4 : Vec F S1x128 .f32) (x5 : Vec F S128x128 .f32)
    (x6 x7 x8 : Vec F S1x128 .f32) (x9 : Vec F S128x128 .f32) (x10 x11 x12 : Vec F S1x128 .f32) (x13 : Vec F S128x128 .f32)
    (x14 x15 x16 : Vec F S1x128 .f32) (x17 x18 x19 : Vec F S128x16 .f32) (x20 : Vec F S1x16 .f32) : FVec F S256x16 .f32 :=
  k0_pay1
    (pooled2 (colSums (lin leaves x1 x2) 16 (le_refl _)) (colSquares (lin leaves x1 x2) 16 (le_refl _))
      (stacked 16384 (lin leaves x1 x2)) x3 x4 x5 x6 x7 x8)
    (top (colSums (lin leaves x1 x2) 16 (le_refl _)) (colSquares (lin leaves x1 x2) 16 (le_refl _))
      (stacked 16384 (lin leaves x1 x2)) x3 x4 x5 x6 x7 x8 x9 x10 x11 x12 x13 x14 x15 x16)
    (stacked 256 fun k => k0_pay99 (chunk leaves k)) x17 x18 x19 x20

end Cert.KernelIdeal.Tree

end
-- ==== Proof.Result.lean ====
/- What the run of the idealized kernel's body leaves in the scores' buffer. -/
module

public import proofs.«01_k».proof.Proof.Run
public import proofs.«01_k».proof.Proof.Slots

@[expose] public section

set_option maxRecDepth 16384

noncomputable section

namespace Cert.KernelIdeal.Tree

open Idealize.ShloMosaic Idealize.ShloMosaic.TcCoe Idealize.ShloMosaic.Tactic
open Cert.KernelIdeal Cert.KernelIdeal.Gen

variable {F : FTy → Type} [FloatOps F]

/-- After a copy into a slot of the ring, a load of the slot reads the copied block. -/
theorem ring_same (M : Memref sig .tc .vmem S4x1024x8x128 .f32) {off : Fin 4 → ℕ} (inb : ∀ a, off a + S1x1024x8x128.size a ≤ S4x1024x8x128.size a)
    (hr : ∀ a, (Rect.unit (s := S4x1024x8x128) off S1x1024x8x128.size inb).stride a = 1)
    (hq : (Rect.unit (s := S4x1024x8x128) off S1x1024x8x128.size inb).shape.Squeezes S1024x8x128) (f : M.view.ty.Contents (Elt F))
    (d : Vec F S1024x8x128 .f32) :
    M.view.readAt (Elt F) (Rect.unit (s := S4x1024x8x128) off S1x1024x8x128.size inb).toLoadRect
        (((M.slice (Rect.unit (s := S4x1024x8x128) off S1x1024x8x128.size inb) hr).squeeze S1024x8x128 hq).view.write (Elt F) f d Finset.univ)
      = shapeCast S1x1024x8x128 d shapeCasts_S1x1024x8x128_S1024x8x128.symm :=
  load_slot_same M _ hr hq shapeCasts_S1x1024x8x128_S1024x8x128 shapeCasts_S1x1024x8x128_S1024x8x128.symm f d

/-- A load of a slot of the ring does not see a copy into another. -/
theorem ring_other (M : Memref sig .tc .vmem S4x1024x8x128 .f32) {j k : ℕ} (hjk : j ≠ k)
    (inb : ∀ a, (![j, 0, 0, 0] : Fin 4 → ℕ) a + S1x1024x8x128.size a ≤ S4x1024x8x128.size a)
    (inb' : ∀ a, (![k, 0, 0, 0] : Fin 4 → ℕ) a + S1x1024x8x128.size a ≤ S4x1024x8x128.size a)
    (hr : ∀ a, (Rect.unit (s := S4x1024x8x128) ![k, 0, 0, 0] S1x1024x8x128.size inb').stride a = 1)
    (hq : (Rect.unit (s := S4x1024x8x128) ![k, 0, 0, 0] S1x1024x8x128.size inb').shape.Squeezes S1024x8x128) (f : M.view.ty.Contents (Elt F))
    (d : Vec F S1024x8x128 .f32) :
    M.view.readAt (Elt F) (Rect.unit (s := S4x1024x8x128) ![j, 0, 0, 0] S1x1024x8x128.size inb).toLoadRect
        (((M.slice (Rect.unit (s := S4x1024x8x128) ![k, 0, 0, 0] S1x1024x8x128.size inb') hr).squeeze S1024x8x128 hq).view.write (Elt F) f d Finset.univ)
      = M.view.readAt (Elt F) (Rect.unit (s := S4x1024x8x128) ![j, 0, 0, 0] S1x1024x8x128.size inb).toLoadRect f :=
  load_slot_other M _ _ hr hq (0 : Fin 4) rfl (by
    show j + 1 ≤ k ∨ k + 1 ≤ j
    omega) f d

theorem blocks1024_inb (k : Fin 16) (a : Fin 2) : (![1024 * k.val, 0] : Fin 2 → ℕ) a + (![1024, 128] : Fin 2 → ℕ) a ≤ (![16384, 128] : Fin 2 → ℕ) a := by
  have := k.isLt
  fin_cases a
  · show 1024 * k.val + 1024 ≤ 16384; omega
  · exact Nat.le_refl 128

theorem blocks16_inb (k : Fin 16) (a : Fin 2) : (![16 * k.val, 0] : Fin 2 → ℕ) a + (![16, 128] : Fin 2 → ℕ) a ≤ (![256, 128] : Fin 2 → ℕ) a := by
  have := k.isLt
  fin_cases a
  · show 16 * k.val + 16 ≤ 256; omega
  · exact Nat.le_refl 128

set_option maxHeartbeats 4000000 in
/-- The run leaves the scores. -/
theorem kernelRun_read (c : Dev nD)
    (arg1 : Memref sig .tc .vmem S128x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S128x16 .f32) (harg17 : arg17.IsWhole) (arg18 : Memref sig .tc .vmem S128x16 .f32) (harg18 : arg18.IsWhole) (arg19 : Memref sig .tc .vmem S128x16 .f32) (harg19 : arg19.IsWhole) (arg20 : Memref sig .tc .vmem S1x16 .f32) (harg20 : arg20.IsWhole) (arg21 : Memref sig .tc .vmem S256x16 .f32) (harg21 : arg21.IsWhole) (arg22 : Memref sig .tc .vmem S4x1024x8x128 .f32) (harg22 : arg22.IsWhole) (arg23 : Memref sig .tc .vmem S16384x128 .f32) (harg23 : arg23.IsWhole) (arg24 : Memref sig .tc .vmem S256x128 .f32) (harg24 : arg24.IsWhole)
    (x1 : Vec F S128x128 .f32) (x2 : Vec F S1x128 .f32) (x3 : Vec F S1x128 .f32) (x4 : Vec F S1x128 .f32) (x5 : Vec F S128x128 .f32) (x6 : Vec F S1x128 .f32) (x7 : Vec F S1x128 .f32) (x8 : Vec F S1x128 .f32) (x9 : Vec F S128x128 .f32) (x10 : Vec F S1x128 .f32) (x11 : Vec F S1x128 .f32) (x12 : Vec F S1x128 .f32) (x13 : Vec F S128x128 .f32) (x14 : Vec F S1x128 .f32) (x15 : Vec F S1x128 .f32) (x16 : Vec F S1x128 .f32) (x17 : Vec F S128x16 .f32) (x18 : Vec F S128x16 .f32) (x19 : Vec F S128x16 .f32) (x20 : Vec F S1x16 .f32)
    (leaves : MBuf (F := F) c leavesM) (g21 : MBuf (F := F) c arg21) (g22 : MBuf (F := F) c arg22) (g23 : MBuf (F := F) c arg23) (g24 : MBuf (F := F) c arg24) :
    arg21.view.read (Elt F) (kernelRun (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 leaves g21 g22 g23 g24).1
      = scores leaves x1 x2 x3 x4 x5 x6 x7 x8 x9 x10 x11 x12 x13 x14 x15 x16 x17 x18 x19 x20 := by
  have hv : kernelRun.sl.v27 c arg22 leaves g22 = chunk leaves 0 ∧ kernelRun.sl.v61 c arg22 leaves g22 = chunk leaves 1 ∧ kernelRun.sl.v95 c arg22 leaves g22 = chunk leaves 2 ∧ kernelRun.sl.v129 c arg22 leaves g22 = chunk leaves 3 ∧ kernelRun.sl.v163 c arg22 leaves g22 = chunk leaves 4 ∧ kernelRun.sl.v197 c arg22 leaves g22 = chunk leaves 5 ∧ kernelRun.sl.v231 c arg22 leaves g22 = chunk leaves 6 ∧ kernelRun.sl.v265 c arg22 leaves g22 = chunk leaves 7 ∧ kernelRun.sl.v299 c arg22 leaves g22 = chunk leaves 8 ∧ kernelRun.sl.v333 c arg22 leaves g22 = chunk leaves 9 ∧ kernelRun.sl.v367 c arg22 leaves g22 = chunk leaves 10 ∧ kernelRun.sl.v401 c arg22 leaves g22 = chunk leaves 11 ∧ kernelRun.sl.v435 c arg22 leaves g22 = chunk leaves 12 ∧ kernelRun.sl.v464 c arg22 leaves g22 = chunk leaves 13 ∧ kernelRun.sl.v493 c arg22 leaves g22 = chunk leaves 14 ∧ kernelRun.sl.v522 c arg22 leaves g22 = chunk leaves 15 := by
    refine ⟨?_, ?_, ?_, ?_, ?_, ?_, ?_, ?_, ?_, ?_, ?_, ?_, ?_, ?_, ?_, ?_⟩ <;> sl_unfold_run_names <;> simp only [↓ring_same, ↓ring_other, ne_eq, not_false_eq_true, OfNat.zero_ne_ofNat, OfNat.one_ne_ofNat, OfNat.ofNat_ne_zero, OfNat.ofNat_ne_one, one_ne_zero, zero_ne_one, Nat.reduceEqDiff, reduceCtorEq] <;> rfl
  obtain ⟨hv27, hv61, hv95, hv129, hv163, hv197, hv231, hv265, hv299, hv333, hv367, hv401, hv435, hv464, hv493, hv522⟩ := hv
  have h23 : kernelRun.sl.H23_16 c arg1 harg1 arg2 harg2 arg22 x1 x2 leaves g22
      = blockStores blocks1024_inb (fun k => k0_pay13 (chunk leaves k) x1 x2) 16 (le_refl _) := by
    unfold kernelRun.sl.H23_16
    simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16, kernelRun.sl.r_17, kernelRun.sl.r_18, kernelRun.sl.r_19, kernelRun.sl.r_20, kernelRun.sl.r_21, kernelRun.sl.r_22, kernelRun.sl.r_23, kernelRun.sl.r_24, kernelRun.sl.r_25, kernelRun.sl.r_26, kernelRun.sl.r_27, kernelRun.sl.r_28, kernelRun.sl.r_29, kernelRun.sl.r_30, kernelRun.sl.r_31, kernelRun.sl.r_32, kernelRun.sl.r_33, kernelRun.sl.r_34, kernelRun.sl.r_35, kernelRun.sl.r_36, kernelRun.sl.r_37, kernelRun.sl.r_38, kernelRun.sl.r_39, kernelRun.sl.r_40, kernelRun.sl.r_41, hv27, hv61, hv95, hv129, hv163, hv197, hv231, hv265, hv299, hv333, hv367, hv401, hv435, hv464, hv493, hv522]
    rw [load_whole harg1, load_whole harg2]
    rfl
  have h24 : kernelRun.sl.H24_16 c arg22 leaves g22
      = blockStores blocks16_inb (fun k => k0_pay99 (chunk leaves k)) 16 (le_refl _) := by
    unfold kernelRun.sl.H24_16
    simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16, kernelRun.sl.r_17, kernelRun.sl.r_18, kernelRun.sl.r_19, kernelRun.sl.r_20, kernelRun.sl.r_21, kernelRun.sl.r_22, kernelRun.sl.r_23, kernelRun.sl.r_24, kernelRun.sl.r_25, kernelRun.sl.r_26, kernelRun.sl.r_27, kernelRun.sl.r_28, kernelRun.sl.r_29, kernelRun.sl.r_30, kernelRun.sl.r_31, kernelRun.sl.r_32, kernelRun.sl.r_33, kernelRun.sl.r_34, kernelRun.sl.r_35, kernelRun.sl.r_36, kernelRun.sl.r_37, kernelRun.sl.r_38, kernelRun.sl.r_39, kernelRun.sl.r_40, kernelRun.sl.r_41, hv27, hv61, hv95, hv129, hv163, hv197, hv231, hv265, hv299, hv333, hv367, hv401, hv435, hv464, hv493, hv522]
    rfl
  have h562 : kernelRun.sl.v562 c arg1 harg1 arg2 harg2 arg22 arg23 x1 x2 leaves g22 = stacked 16384 (lin leaves x1 x2) := by
    unfold kernelRun.sl.v562
    rw [h23]
    refine (readCov_blockStores (B := 1024) (R := 16384) rfl _ _ _ _).trans (congrArg (stacked 16384) (funext fun k => ?_))
    exact shapeCast_self _ _
  have h670 : kernelRun.sl.v670 c arg22 arg24 leaves g22 = stacked 256 fun k => k0_pay99 (chunk leaves k) := by
    unfold kernelRun.sl.v670
    rw [h24]
    exact readCov_blockStores (B := 16) (R := 256) rfl _ _ _ _
  have hs : kernelRun.sl.r_40 c arg1 harg1 arg2 harg2 arg22 x1 x2 leaves g22 = colSums (lin leaves x1 x2) 16 (le_refl _) := by
    simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16, kernelRun.sl.r_17, kernelRun.sl.r_18, kernelRun.sl.r_19, kernelRun.sl.r_20, kernelRun.sl.r_21, kernelRun.sl.r_22, kernelRun.sl.r_23, kernelRun.sl.r_24, kernelRun.sl.r_25, kernelRun.sl.r_26, kernelRun.sl.r_27, kernelRun.sl.r_28, kernelRun.sl.r_29, kernelRun.sl.r_30, kernelRun.sl.r_31, kernelRun.sl.r_32, kernelRun.sl.r_33, kernelRun.sl.r_34, kernelRun.sl.r_35, kernelRun.sl.r_36, kernelRun.sl.r_37, kernelRun.sl.r_38, kernelRun.sl.r_39, kernelRun.sl.r_40, kernelRun.sl.r_41, hv27, hv61, hv95, hv129, hv163, hv197, hv231, hv265, hv299, hv333, hv367, hv401, hv435, hv464, hv493, hv522]
    rw [load_whole harg1, load_whole harg2]
    rfl
  have hq : kernelRun.sl.r_41 c arg1 harg1 arg2 harg2 arg22 x1 x2 leaves g22 = colSquares (lin leaves x1 x2) 16 (le_refl _) := by
    simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16, kernelRun.sl.r_17, kernelRun.sl.r_18, kernelRun.sl.r_19, kernelRun.sl.r_20, kernelRun.sl.r_21, kernelRun.sl.r_22, kernelRun.sl.r_23, kernelRun.sl.r_24, kernelRun.sl.r_25, kernelRun.sl.r_26, kernelRun.sl.r_27, kernelRun.sl.r_28, kernelRun.sl.r_29, kernelRun.sl.r_30, kernelRun.sl.r_31, kernelRun.sl.r_32, kernelRun.sl.r_33, kernelRun.sl.r_34, kernelRun.sl.r_35, kernelRun.sl.r_36, kernelRun.sl.r_37, kernelRun.sl.r_38, kernelRun.sl.r_39, kernelRun.sl.r_40, kernelRun.sl.r_41, hv27, hv61, hv95, hv129, hv163, hv197, hv231, hv265, hv299, hv333, hv367, hv401, hv435, hv464, hv493, hv522]
    rw [load_whole harg1, load_whole harg2]
    rfl
  refine (read_store_whole arg21.view g21 _ _).trans ?_
  unfold kernelRun.sl.r_49 kernelRun.sl.r_48 kernelRun.sl.r_47 kernelRun.sl.r_46 kernelRun.sl.r_45 kernelRun.sl.r_44 kernelRun.sl.r_43 kernelRun.sl.r_42 kernelRun.sl.cst_495
  rw [hs, hq, h562, h670]
  repeat rw [load_whole]
  rfl

end Cert.KernelIdeal.Tree

end
-- ==== Proof.Launch.lean ====
/- The launch of the idealized kernel: its body meets the pipeline's obligation, so the whole program runs, leaves its
   arguments as they were, and leaves the scores in its result. -/
module

public import proofs.«01_k».proof.Proof.Result
public import Idealize.ShloMosaic.Lib.Pipeline.ValueKit

@[expose] public section

set_option maxRecDepth 16384

noncomputable section

namespace Cert.KernelIdeal.Tree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A whole memref owned at some contents is its buffer held at some contents, -/
theorem held_of_owns (c : Dev nD) {sp : Space} {S : Shape} {e : EltTy} (M : Memref sig .tc sp S e) (hM : M.IsWhole) (X : Vec F S e) :
    (owns (c : Thread nD τ) M fullShare X : sProp 𝕄) ⊢ iprop(∃ g : MBuf (F := F) c M, held c M g) := by
  unfold owns
  iintro ⟨%f, -, H⟩
  iexists f
  rw [hM.set_eq_univ]
  iexact H

/-- and back, at what the buffer reads as. -/
theorem owns_of_held (c : Dev nD) {sp : Space} {S : Shape} {e : EltTy} (M : Memref sig .tc sp S e) (hM : M.IsWhole) (X : Vec F S e)
    (g : MBuf (F := F) c M) (hg : M.view.read (Elt F) g = X) :
    (held c M g : sProp 𝕄) ⊢ owns (c : Thread nD τ) M fullShare X := by
  unfold owns
  iintro H
  iexists g
  isplitr; · ipureintro; exact hg
  rw [hM.set_eq_univ]
  iexact H

/-- The scores that the kernel leaves, from what the region finds in its operands. -/
def result (c : Dev nD) (t : Fin cfg0.N) : Vec F S256x16 .f32 :=
  scores (V m c main_v0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => result m c t
    | ⟨_ + 21, h⟩ => absurd h (Nat.not_lt.2 (Nat.le_add_left _ _))
  Φ _ := Pipeline.ΦD slotSem spec0 leavesRef (V m) c
  q _ := fullShare
  owed _ := 0

theorem A_eq (c : Dev nD) (w : Fin cfg0.W) : (dats m 0 c).A w = V m c (Pipeline.arrRef spec0 w) := by dsimp only [dats]

/-- What the body leaves, window by window: an input's block in place, the scores. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = result m c t := by dsimp only [dats]

/-- An input window that the body leaves in place holds its block before, at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  ((dats m 0 c).before_in_eq_fetched 16 rfl (fun _ => rfl) (fun _ _ _ => rfl) (fun t => by rw [after_16]; unfold Dat.blockOf iblk; rw [A_eq]; try rfl) t d).trans
    (by unfold Dat.fetched Dat.blockOf iblk; rw [A_eq]; try rfl)
theorem before_17 (c : Dev nD) (t : Fin cfg0.N) (d) : (dats m 0 c).before 17 t d = iblk m c 17 t :=
  ((dats m 0 c).before_in_eq_fetched 17 rfl (fun _ => rfl) (fun _ _ _ => rfl) (fun t => by rw [after_17]; unfold Dat.blockOf iblk; rw [A_eq]; try rfl) t d).trans
    (by unfold Dat.fetched Dat.blockOf iblk; rw [A_eq]; try rfl)
theorem before_18 (c : Dev nD) (t : Fin cfg0.N) (d) : (dats m 0 c).before 18 t d = iblk m c 18 t :=
  ((dats m 0 c).before_in_eq_fetched 18 rfl (fun _ => rfl) (fun _ _ _ => rfl) (fun t => by rw [after_18]; unfold Dat.blockOf iblk; rw [A_eq]; try rfl) t d).trans
    (by unfold Dat.fetched Dat.blockOf iblk; rw [A_eq]; try rfl)
theorem before_19 (c : Dev nD) (t : Fin cfg0.N) (d) : (dats m 0 c).before 19 t d = iblk m c 19 t :=
  ((dats m 0 c).before_in_eq_fetched 19 rfl (fun _ => rfl) (fun _ _ _ => rfl) (fun t => by rw [after_19]; unfold Dat.blockOf iblk; rw [A_eq]; try rfl) t d).trans
    (by unfold Dat.fetched Dat.blockOf iblk; rw [A_eq]; try rfl)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t))

set_option maxHeartbeats 2400000 in
/-- The body at any point: the run applies at the windows' blocks; the invariant lends it its scratch, its semaphores and
    the leaves; the scores' buffer comes back at `result`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19]
  rw [show (dats m 0 c).Φ t.succ = Pipeline.ΦD slotSem spec0 leavesRef (V m) c from rfl,
    show (dats m 0 c).Φ t.castSucc = Pipeline.ΦD slotSem spec0 leavesRef (V m) c from rfl, invariant_eq, after_20,
    after_0, after_1, after_2, after_3, after_4, after_5, after_6, after_7, after_8, after_9, after_10, after_11, after_12, after_13, after_14, after_15, after_16, after_17, after_18, after_19]
  unfold Dat.owesAt Pipeline.owesWithin
  rw [show (dats m 0 c).owed t.castSucc = 0 from rfl, show (dats m 0 c).owed t.succ = 0 from rfl]
  iintro ⟨⟨⟨⟨%e0, HS0⟩, ⟨%e1, HS1⟩, ⟨%e2, HS2⟩⟩, Hg, ⟨Hq0, Hq1, Hq2, Hq3⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  ihave H20 := (held_of_owns c _ (hstage0_20 0) _) $$ H20
  ihave HS0 := (held_of_owns c _ (Memref.isWhole_whole _) _) $$ HS0
  ihave HS1 := (held_of_owns c _ (Memref.isWhole_whole _) _) $$ HS1
  ihave HS2 := (held_of_owns c _ (Memref.isWhole_whole _) _) $$ HS2
  icases H20 with ⟨%g21, H20⟩
  icases HS0 with ⟨%g22, HS0⟩
  icases HS1 with ⟨%g23, HS1⟩
  icases HS2 with ⟨%g24, HS2⟩
  iapply ((kernelRun c _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (V m c main_v0) g21 g22 g23 g24).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hq3]; · iexact Hq3
  isplitl [Hh]; · iexact Hh
  isplitl [HW]; · iexact HW
  iintro ⟨H0, H1, H2, H3, H4, H5, H6, H7, H8, H9, H10, H11, H12, H13, H14, H15, H16, H17, H18, H19, H20, ⟨%u0, HS0⟩, ⟨%u1, HS1⟩, ⟨%u2, HS2⟩, Hq0, Hq1, Hq2, Hq3, Hh, ⟨%W', HW'⟩⟩
  isplitl [HS0 HS1 HS2 Hg Hq0 Hq1 Hq2 Hq3 Hh]
  · isplitl [HS0 HS1 HS2]
    · isplitl [HS0]
      · iexists _; iapply (owns_of_held c slotsM (Memref.isWhole_whole _) _ u0 rfl); iexact HS0
      isplitl [HS1]
      · iexists _; iapply (owns_of_held c actsM (Memref.isWhole_whole _) _ u1 rfl); iexact HS1
      iexists _; iapply (owns_of_held c treesM (Memref.isWhole_whole _) _ u2 rfl); iexact HS2
    isplitl [Hg]; · iexact Hg
    isplitl [Hq0 Hq1 Hq2 Hq3]
    · isplitl [Hq0]; · iexact Hq0
      isplitl [Hq1]; · iexact Hq1
      isplitl [Hq2]; · iexact Hq2
      iexact Hq3
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iapply (owns_of_held c (win0_20.stage (cfg0.slots t 20)) (hstage0_20 0) _ _ (kernelRun_read c _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (V m c main_v0) g21 g22 g23 g24)); iexact H20

/-- The body table's row at point `t`'s slots is the body as the points spell it. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: every fair run ends with the windows' arrays as the proof data say, every other array as the region found
    it, and every counter at zero. -/
theorem launched : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 slotSem defs₀ Variants.none slotSem_facts leavesRef leavesRef_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

end Cert.KernelIdeal.Tree

end
-- ==== Proof.Value.lean ====
/- What a run of the idealized kernel leaves: its arguments as they were, every counter at zero, and in its result the
   scores of its arguments. -/
module

public import proofs.«01_k».proof.Proof.Launch
public import Idealize.ShloMosaic.Lib.Claim

@[expose] public section

set_option maxRecDepth 16384

noncomputable section

namespace Cert.KernelIdeal.Tree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A parameter row, as the kernel takes it. -/
abbrev row (v : Vec F S128 .f32) : Vec F S1x128 .f32 := shapeCast S1x128 v shapeCasts_S128_S1x128

/-- The scores, from the arguments' contents. -/
def answer (c : Dev nD) : Vec F S256x16 .f32 :=
  scores (shapeCast S16384x8x128 (m ((c : Thread nD τ).loc main_arg0)) shapeCasts_S131072x128_S16384x8x128)
    (m ((c : Thread nD τ).loc main_arg5))
    (row (m ((c : Thread nD τ).loc main_arg6)))
    (row (m ((c : Thread nD τ).loc main_arg7)))
    (row (m ((c : Thread nD τ).loc main_arg8)))
    (m ((c : Thread nD τ).loc main_arg9))
    (row (m ((c : Thread nD τ).loc main_arg10)))
    (row (m ((c : Thread nD τ).loc main_arg11)))
    (row (m ((c : Thread nD τ).loc main_arg12)))
    (m ((c : Thread nD τ).loc main_arg13))
    (row (m ((c : Thread nD τ).loc main_arg14)))
    (row (m ((c : Thread nD τ).loc main_arg15)))
    (row (m ((c : Thread nD τ).loc main_arg16)))
    (m ((c : Thread nD τ).loc main_arg17))
    (row (m ((c : Thread nD τ).loc main_arg18)))
    (row (m ((c : Thread nD τ).loc main_arg19)))
    (row (m ((c : Thread nD τ).loc main_arg20)))
    (m ((c : Thread nD τ).loc main_arg21))
    (m ((c : Thread nD τ).loc main_arg23))
    (m ((c : Thread nD τ).loc main_arg25))
    (shapeCast S1x16 (addf (addf (m ((c : Thread nD τ).loc main_arg22)) (m ((c : Thread nD τ).loc main_arg24)) : Vec F S16 .f32) (m ((c : Thread nD τ).loc main_arg26)) : Vec F S16 .f32) shapeCasts_S16_S1x16)

/-- Each window is its whole array, and what the host operations before the region leave there: an argument, a parameter
    as a row, the biases' sum as a row. -/
theorem operand_0 (c : Dev nD) : iblk m c 0 t0_0 = m ((c : Thread nD τ).loc main_arg5) := by
  refine Eq.trans (b := V m c main_arg5) (funext fun y => ?_) (V_main_arg5 m c)
  have h : ∀ a, win0_0.index t0_0 a = 0 := fun _ => rfl
  blk_ext [iblk, h]
theorem operand_1 (c : Dev nD) : iblk m c 1 t0_0 = row (m ((c : Thread nD τ).loc main_arg6)) := by
  refine Eq.trans (b := V m c main_v4) (funext fun y => ?_) ((by entry_read; rfl))
  have h : ∀ a, win0_1.index t0_0 a = 0 := fun _ => rfl
  blk_ext [iblk, h]
theorem operand_2 (c : Dev nD) : iblk m c 2 t0_0 = row (m ((c : Thread nD τ).loc main_arg7)) := by
  refine Eq.trans (b := V m c main_v5) (funext fun y => ?_) ((by entry_read; rfl))
  have h : ∀ a, win0_2.index t0_0 a = 0 := fun _ => rfl
  blk_ext [iblk, h]
theorem operand_3 (c : Dev nD) : iblk m c 3 t0_0 = row (m ((c : Thread nD τ).loc main_arg8)) := by
  refine Eq.trans (b := V m c main_v6) (funext fun y => ?_) ((by entry_read; rfl))
  have h : ∀ a, win0_3.index t0_0 a = 0 := fun _ => rfl
  blk_ext [iblk, h]
theorem operand_4 (c : Dev nD) : iblk m c 4 t0_0 = m ((c : Thread nD τ).loc main_arg9) := by
  refine Eq.trans (b := V m c main_arg9) (funext fun y => ?_) (V_main_arg9 m c)
  have h : ∀ a, win0_4.index t0_0 a = 0 := fun _ => rfl
  blk_ext [iblk, h]
theorem operand_5 (c : Dev nD) : iblk m c 5 t0_0 = row (m ((c : Thread nD τ).loc main_arg10)) := by
  refine Eq.trans (b := V m c main_v7) (funext fun y => ?_) ((by entry_read; rfl))
  have h : ∀ a, win0_5.index t0_0 a = 0 := fun _ => rfl
  blk_ext [iblk, h]
theorem operand_6 (c : Dev nD) : iblk m c 6 t0_0 = row (m ((c : Thread nD τ).loc main_arg11)) := by
  refine Eq.trans (b := V m c main_v8) (funext fun y => ?_) ((by entry_read; rfl))
  have h : ∀ a, win0_6.index t0_0 a = 0 := fun _ => rfl
  blk_ext [iblk, h]
theorem operand_7 (c : Dev nD) : iblk m c 7 t0_0 = row (m ((c : Thread nD τ).loc main_arg12)) := by
  refine Eq.trans (b := V m c main_v9) (funext fun y => ?_) ((by entry_read; rfl))
  have h : ∀ a, win0_7.index t0_0 a = 0 := fun _ => rfl
  blk_ext [iblk, h]
theorem operand_8 (c : Dev nD) : iblk m c 8 t0_0 = m ((c : Thread nD τ).loc main_arg13) := by
  refine Eq.trans (b := V m c main_arg13) (funext fun y => ?_) (V_main_arg13 m c)
  have h : ∀ a, win0_8.index t0_0 a = 0 := fun _ => rfl
  blk_ext [iblk, h]
theorem operand_9 (c : Dev nD) : iblk m c 9 t0_0 = row (m ((c : Thread nD τ).loc main_arg14)) := by
  refine Eq.trans (b := V m c main_v10) (funext fun y => ?_) ((by entry_read; rfl))
  have h : ∀ a, win0_9.index t0_0 a = 0 := fun _ => rfl
  blk_ext [iblk, h]
theorem operand_10 (c : Dev nD) : iblk m c 10 t0_0 = row (m ((c : Thread nD τ).loc main_arg15)) := by
  refine Eq.trans (b := V m c main_v11) (funext fun y => ?_) ((by entry_read; rfl))
  have h : ∀ a, win0_10.index t0_0 a = 0 := fun _ => rfl
  blk_ext [iblk, h]
theorem operand_11 (c : Dev nD) : iblk m c 11 t0_0 = row (m ((c : Thread nD τ).loc main_arg16)) := by
  refine Eq.trans (b := V m c main_v12) (funext fun y => ?_) ((by entry_read; rfl))
  have h : ∀ a, win0_11.index t0_0 a = 0 := fun _ => rfl
  blk_ext [iblk, h]
theorem operand_12 (c : Dev nD) : iblk m c 12 t0_0 = m ((c : Thread nD τ).loc main_arg17) := by
  refine Eq.trans (b := V m c main_arg17) (funext fun y => ?_) (V_main_arg17 m c)
  have h : ∀ a, win0_12.index t0_0 a = 0 := fun _ => rfl
  blk_ext [iblk, h]
theorem operand_13 (c : Dev nD) : iblk m c 13 t0_0 = row (m ((c : Thread nD τ).loc main_arg18)) := by
  refine Eq.trans (b := V m c main_v13) (funext fun y => ?_) ((by entry_read; rfl))
  have h : ∀ a, win0_13.index t0_0 a = 0 := fun _ => rfl
  blk_ext [iblk, h]
theorem operand_14 (c : Dev nD) : iblk m c 14 t0_0 = row (m ((c : Thread nD τ).loc main_arg19)) := by
  refine Eq.trans (b := V m c main_v14) (funext fun y => ?_) ((by entry_read; rfl))
  have h : ∀ a, win0_14.index t0_0 a = 0 := fun _ => rfl
  blk_ext [iblk, h]
theorem operand_15 (c : Dev nD) : iblk m c 15 t0_0 = row (m ((c : Thread nD τ).loc main_arg20)) := by
  refine Eq.trans (b := V m c main_v15) (funext fun y => ?_) ((by entry_read; rfl))
  have h : ∀ a, win0_15.index t0_0 a = 0 := fun _ => rfl
  blk_ext [iblk, h]
theorem operand_16 (c : Dev nD) : iblk m c 16 t0_0 = m ((c : Thread nD τ).loc main_arg21) := by
  refine Eq.trans (b := V m c main_arg21) (funext fun y => ?_) (V_main_arg21 m c)
  have h : ∀ a, win0_16.index t0_0 a = 0 := fun _ => rfl
  blk_ext [iblk, h]
theorem operand_17 (c : Dev nD) : iblk m c 17 t0_0 = m ((c : Thread nD τ).loc main_arg23) := by
  refine Eq.trans (b := V m c main_arg23) (funext fun y => ?_) (V_main_arg23 m c)
  have h : ∀ a, win0_17.index t0_0 a = 0 := fun _ => rfl
  blk_ext [iblk, h]
theorem operand_18 (c : Dev nD) : iblk m c 18 t0_0 = m ((c : Thread nD τ).loc main_arg25) := by
  refine Eq.trans (b := V m c main_arg25) (funext fun y => ?_) (V_main_arg25 m c)
  have h : ∀ a, win0_18.index t0_0 a = 0 := fun _ => rfl
  blk_ext [iblk, h]
theorem operand_19 (c : Dev nD) : iblk m c 19 t0_0 = shapeCast S1x16 (addf (addf (m ((c : Thread nD τ).loc main_arg22)) (m ((c : Thread nD τ).loc main_arg24)) : Vec F S16 .f32) (m ((c : Thread nD τ).loc main_arg26)) : Vec F S16 .f32) shapeCasts_S16_S1x16 := by
  refine Eq.trans (b := V m c main_v3) (funext fun y => ?_) ((by entry_read; rfl))
  have h : ∀ a, win0_19.index t0_0 a = 0 := fun _ => rfl
  blk_ext [iblk, h]
theorem leaves_found (c : Dev nD) : V m c main_v0 = shapeCast S16384x8x128 (m ((c : Thread nD τ).loc main_arg0)) shapeCasts_S131072x128_S16384x8x128 := by
  entry_read; rfl

theorem result_eq (c : Dev nD) : result m c t0_0 = answer m c := by
  unfold result answer
  rw [leaves_found, operand_0, operand_1, operand_2, operand_3, operand_4, operand_5, operand_6, operand_7, operand_8, operand_9, operand_10, operand_11, operand_12, operand_13, operand_14, operand_15, operand_16, operand_17, operand_18, operand_19]

/-- The result's array after the run. -/
theorem array_eq (c : Dev nD) : (dats m 0 c).arrAt 20 (cfgs 0).N = answer m c := by
  refine (dats m 0 c).arrAt_eq_of_after_last 20 t0_0 (by decide +kernel) _ fun j => ?_
  rw [after_20, result_eq]
  rfl

/-- The run: the result, the arguments, the counters. -/
theorem value : θ_run defs (onTc (τ := τ) (main (F := F))) ⟨m, fun _ => 0, ρ⟩ (fun r => (∀ c : Dev nD,
      r.2.mem ((c.tc : Thread nD τ).loc main_v16) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  (θ_run defs _ _).mono (fun _ h => ⟨fun c => ⟨((h.1 c).1 20).trans (array_eq m c),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).1 0).trans (((dats m 0 c).arrAt_in 0 rfl _).trans ((A_eq m c 0).trans (V_main_arg5 m c))),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).1 4).trans (((dats m 0 c).arrAt_in 4 rfl _).trans ((A_eq m c 4).trans (V_main_arg9 m c))),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c),
    ((h.1 c).2 main_arg12 (Pipeline.mem_restRefs_of main_arg12 (by decide) (by decide))).trans (V_main_arg12 m c),
    ((h.1 c).1 8).trans (((dats m 0 c).arrAt_in 8 rfl _).trans ((A_eq m c 8).trans (V_main_arg13 m c))),
    ((h.1 c).2 main_arg14 (Pipeline.mem_restRefs_of main_arg14 (by decide) (by decide))).trans (V_main_arg14 m c),
    ((h.1 c).2 main_arg15 (Pipeline.mem_restRefs_of main_arg15 (by decide) (by decide))).trans (V_main_arg15 m c),
    ((h.1 c).2 main_arg16 (Pipeline.mem_restRefs_of main_arg16 (by decide) (by decide))).trans (V_main_arg16 m c),
    ((h.1 c).1 12).trans (((dats m 0 c).arrAt_in 12 rfl _).trans ((A_eq m c 12).trans (V_main_arg17 m c))),
    ((h.1 c).2 main_arg18 (Pipeline.mem_restRefs_of main_arg18 (by decide) (by decide))).trans (V_main_arg18 m c),
    ((h.1 c).2 main_arg19 (Pipeline.mem_restRefs_of main_arg19 (by decide) (by decide))).trans (V_main_arg19 m c),
    ((h.1 c).2 main_arg20 (Pipeline.mem_restRefs_of main_arg20 (by decide) (by decide))).trans (V_main_arg20 m c),
    ((h.1 c).1 16).trans (((dats m 0 c).arrAt_in 16 rfl _).trans ((A_eq m c 16).trans (V_main_arg21 m c))),
    ((h.1 c).2 main_arg22 (Pipeline.mem_restRefs_of main_arg22 (by decide) (by decide))).trans (V_main_arg22 m c),
    ((h.1 c).1 17).trans (((dats m 0 c).arrAt_in 17 rfl _).trans ((A_eq m c 17).trans (V_main_arg23 m c))),
    ((h.1 c).2 main_arg24 (Pipeline.mem_restRefs_of main_arg24 (by decide) (by decide))).trans (V_main_arg24 m c),
    ((h.1 c).1 18).trans (((dats m 0 c).arrAt_in 18 rfl _).trans ((A_eq m c 18).trans (V_main_arg25 m c))),
    ((h.1 c).2 main_arg26 (Pipeline.mem_restRefs_of main_arg26 (by decide) (by decide))).trans (V_main_arg26 m c)⟩, h.2⟩) (launched m ρ)

end Cert.KernelIdeal.Tree

end
-- ==== Proof.BatchNorm.lean ====
/- Batch normalisation of one column over the extended reals: the form that folds the mean and the variance into one scale
   and one shift equals the form that subtracts, divides and then scales, when the column and the scale are real. -/
module

public import Mathlib.Data.EReal.Inv
public import Idealize.ShloMosaic.PureOps.Ideal

@[expose] public section

noncomputable section

namespace Cert.Tree

open Idealize.ShloMosaic

/-- An extended real that is a real number. -/
def Real' (x : EReal) : Prop := ∃ r : ℝ, x = (r : EReal)

theorem Real'.add {x y : EReal} : Real' x → Real' y → Real' (x + y) := by
  rintro ⟨a, rfl⟩ ⟨b, rfl⟩; exact ⟨a + b, (EReal.coe_add a b).symm⟩

theorem Real'.mul {x y : EReal} : Real' x → Real' y → Real' (x * y) := by
  rintro ⟨a, rfl⟩ ⟨b, rfl⟩; exact ⟨a * b, (EReal.coe_mul a b).symm⟩

theorem sum_coe {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem Real'.sum {ι : Type*} (s : Finset ι) {f : ι → EReal} (hf : ∀ i, Real' (f i)) : Real' (∑ i ∈ s, f i) := by
  choose r hr using hf
  exact ⟨∑ i ∈ s, r i, by rw [← sum_coe]; exact Finset.sum_congr rfl fun i _ => hr i⟩

theorem Real'.of_lt {x : EReal} (h₁ : x < ⊤) (h₂ : ⊥ < x) : Real' x :=
  ⟨x.toReal, (EReal.coe_toReal h₁.ne h₂.ne').symm⟩

/-- The mean of a column of `n` entries. -/
def mean {ι : Type*} [Fintype ι] (n : ℝ) (a : ι → EReal) : EReal := Ideal.div (∑ i, a i) (n : EReal)

/-- The scale, folded: the reciprocal root of the variance, taken as the mean of squares less the square of the mean. -/
def scale {ι : Type*} [Fintype ι] (n ε : ℝ) (a : ι → EReal) (g : EReal) : EReal :=
  Ideal.rsqrt (mean n (fun i => a i * a i) - mean n a * mean n a + (ε : EReal)) * g

/-- The folded form. -/
def folded {ι : Type*} [Fintype ι] (n ε : ℝ) (a : ι → EReal) (g b : EReal) (i : ι) : EReal :=
  a i * scale n ε a g + (b - mean n a * scale n ε a g)

/-- The plain form: the variance is the mean of the squared deviations. -/
def plain {ι : Type*} [Fintype ι] (n ε : ℝ) (a : ι → EReal) (g b : EReal) (i : ι) : EReal :=
  Ideal.div (a i - mean n a) (Ideal.sqrt (mean n (fun j => (a j - mean n a) * (a j - mean n a)) + (ε : EReal))) * g + b

/-- The mean of a column of reals. -/
theorem mean_coe {ι : Type*} [Fintype ι] {n : ℝ} (hn : n ≠ 0) (r : ι → ℝ) :
    mean n (fun i => (r i : EReal)) = (((∑ i, r i) / n : ℝ) : EReal) := by
  unfold mean; rw [sum_coe, Ideal.div_coe hn, ← EReal.coe_mul, mul_one_div]

/-- The two readings of the variance of a column of reals. -/
theorem variance_eq {ι : Type*} [Fintype ι] {n : ℝ} (hn : n ≠ 0) (hc : (Fintype.card ι : ℝ) = n) (r : ι → ℝ) :
    (∑ i, r i * r i) / n - (∑ i, r i) / n * ((∑ i, r i) / n)
      = (∑ i, (r i - (∑ j, r j) / n) * (r i - (∑ j, r j) / n)) / n := by
  generalize hS : (∑ j, r j) = S
  have h : ∑ i, (r i - S / n) * (r i - S / n) = (∑ i, r i * r i) - S * S / n := by
    have : ∀ i, (r i - S / n) * (r i - S / n) = r i * r i - 2 * (S / n) * r i + S / n * (S / n) := fun i => by ring
    simp only [this, Finset.sum_add_distrib, Finset.sum_sub_distrib, ← Finset.mul_sum, hS, Finset.sum_const,
      Finset.card_univ, nsmul_eq_mul, hc]
    field_simp; ring
  rw [h]; field_simp

/-- A real column has a positive real under the root, whichever way the variance is read. -/
theorem root_coe {ι : Type*} [Fintype ι] {n ε : ℝ} (hn : 0 < n) (hε : 0 < ε) (r : ι → ℝ) :
    0 < (∑ i, (r i - (∑ j, r j) / n) * (r i - (∑ j, r j) / n)) / n + ε :=
  add_pos_of_nonneg_of_pos (div_nonneg (Finset.sum_nonneg fun i _ => mul_self_nonneg _) hn.le) hε

/-- Both forms of a column of reals, computed. -/
theorem forms_coe {ι : Type*} [Fintype ι] {n ε : ℝ} (hn : 0 < n) (hε : 0 < ε) (hc : (Fintype.card ι : ℝ) = n)
    (r : ι → ℝ) (g : ℝ) (b : EReal) (i : ι) :
    ∃ y : ℝ, folded n ε (fun i => (r i : EReal)) g b i = (y : EReal) + b
      ∧ plain n ε (fun i => (r i : EReal)) g b i = (y : EReal) + b := by
  set μ : ℝ := (∑ j, r j) / n with hμ
  set w : ℝ := (∑ i, (r i - μ) * (r i - μ)) / n + ε with hw
  have hw0 : 0 < w := root_coe hn hε r
  have hs : Real.sqrt w ≠ 0 := (Real.sqrt_pos.2 hw0).ne'
  have hm : mean n (fun i => (r i : EReal)) = (μ : EReal) := mean_coe hn.ne' r
  refine ⟨(r i - μ) / Real.sqrt w * g, ?_, ?_⟩
  · have hq : mean n (fun i => (r i : EReal) * (r i : EReal)) = (((∑ i, r i * r i) / n : ℝ) : EReal) := by
      simp only [← EReal.coe_mul]; exact mean_coe hn.ne' _
    have hsc : scale n ε (fun i => (r i : EReal)) g = (((Real.sqrt w)⁻¹ * g : ℝ) : EReal) := by
      unfold scale
      rw [hm, hq, ← EReal.coe_mul, ← EReal.coe_sub, ← EReal.coe_add, hμ, variance_eq hn.ne' hc r, ← hμ, ← hw,
        Ideal.rsqrt_coe, if_neg (not_lt.2 hw0.le), if_neg hw0.ne', ← EReal.coe_mul]
    unfold folded
    rw [hm, hsc, ← EReal.coe_mul, ← EReal.coe_mul, sub_eq_add_neg, ← EReal.coe_neg, add_comm b, ← add_assoc,
      ← EReal.coe_add]
    congr 2; ring
  · have hq : mean n (fun j => ((r j : EReal) - (μ : EReal)) * ((r j : EReal) - (μ : EReal)))
        = (((∑ i, (r i - μ) * (r i - μ)) / n : ℝ) : EReal) := by
      simp only [← EReal.coe_sub, ← EReal.coe_mul]; exact mean_coe hn.ne' _
    unfold plain
    rw [hm, hq, ← EReal.coe_add, ← hw, Ideal.sqrt_coe, if_neg (not_lt.2 hw0.le), ← EReal.coe_sub, Ideal.div_coe hs,
      ← EReal.coe_mul, ← EReal.coe_mul, mul_one_div]

/-- The folded form is the plain form. -/
theorem folded_eq_plain {ι : Type*} [Fintype ι] {n ε : ℝ} (hn : 0 < n) (hε : 0 < ε) (hc : (Fintype.card ι : ℝ) = n)
    {a : ι → EReal} (ha : ∀ i, Real' (a i)) {g : EReal} (hg : Real' g) (b : EReal) (i : ι) :
    folded n ε a g b i = plain n ε a g b i := by
  choose r hr using ha
  obtain rfl : a = fun i => (r i : EReal) := funext hr
  obtain ⟨g, rfl⟩ := hg
  obtain ⟨y, h₁, h₂⟩ := forms_coe hn hε hc r g b i
  rw [h₁, h₂]

/-- Clipped at zero, the plain form is real unless the shift is the positive infinity. -/
theorem real_relu_plain {ι : Type*} [Fintype ι] {n ε : ℝ} (hn : 0 < n) (hε : 0 < ε) (hc : (Fintype.card ι : ℝ) = n)
    {a : ι → EReal} (ha : ∀ i, Real' (a i)) {g : EReal} (hg : Real' g) {b : EReal} (hb : b < ⊤) (i : ι) :
    Real' (max (plain n ε a g b i) 0) := by
  choose r hr using ha
  obtain rfl : a = fun i => (r i : EReal) := funext hr
  obtain ⟨g, rfl⟩ := hg
  obtain ⟨y, -, h⟩ := forms_coe hn hε hc r g b i
  refine Real'.of_lt (max_lt ?_ EReal.zero_lt_top) (lt_max_of_lt_right EReal.bot_lt_zero)
  rw [h]; exact EReal.add_lt_top (EReal.coe_ne_top y) hb.ne

end Cert.Tree

end
-- ==== Proof.Network.lean ====
/- The network over the extended reals, layer by layer, and sums over equal groups of rows. -/
module

public import proofs.«01_k».proof.Proof.BatchNorm
public import Mathlib.Data.Fintype.BigOperators
public import Mathlib.Logic.Equiv.Fin.Basic

@[expose] public section

noncomputable section

namespace Cert.Tree

open Idealize.ShloMosaic

/-! ## Groups of rows -/

/-- Row `j` of group `i`, the rows in groups of `k`. -/
def pick {R n k : ℕ} (h : R = n * k) (i : Fin n) (j : Fin k) : Fin R :=
  ⟨i.val * k + j.val, by
    rw [h]
    calc i.val * k + j.val < i.val * k + k := Nat.add_lt_add_left j.isLt _
      _ = (i.val + 1) * k := (Nat.succ_mul _ _).symm
      _ ≤ n * k := Nat.mul_le_mul_right _ i.isLt⟩

/-- A sum over all rows is the sum over the groups of the sums over each group's rows. -/
theorem sum_pick {M : Type*} [AddCommMonoid M] {R n k : ℕ} (h : R = n * k) (f : Fin R → M) :
    ∑ r, f r = ∑ i : Fin n, ∑ j : Fin k, f (pick h i j) := by
  subst h
  rw [← Fintype.sum_prod_type', ← finProdFinEquiv.sum_comp]
  refine Finset.sum_congr rfl fun p _ => congrArg f (Fin.ext ?_)
  show p.2.val + k * p.1.val = p.1.val * k + p.2.val
  rw [Nat.add_comm, Nat.mul_comm]

/-- The rows whose number divided by `k` is `i` are group `i`. -/
theorem sum_group {M : Type*} [AddCommMonoid M] {R n k : ℕ} (h : R = n * k) (f : Fin R → M) (i : Fin n) :
    (∑ r, if r.val / k = i.val then f r else 0) = ∑ j : Fin k, f (pick h i j) := by
  rw [sum_pick h, Finset.sum_eq_single i]
  · refine Finset.sum_congr rfl fun j _ => if_pos ?_
    show (i.val * k + j.val) / k = i.val
    rw [Nat.mul_comm, Nat.mul_add_div (Nat.zero_lt_of_lt j.isLt), Nat.div_eq_of_lt j.isLt, Nat.add_zero]
  · intro i' _ hi
    refine Finset.sum_eq_zero fun j _ => if_neg fun he => hi (Fin.ext ?_)
    have : (i'.val * k + j.val) / k = i.val := he
    rwa [Nat.mul_comm, Nat.mul_add_div (Nat.zero_lt_of_lt j.isLt), Nat.div_eq_of_lt j.isLt, Nat.add_zero] at this
  · exact fun hi => absurd (Finset.mem_univ i) hi

/-- Groups of groups: row `l` of group `j` of group `i`. -/
theorem sum_pick_pick {M : Type*} [AddCommMonoid M] {R n k l : ℕ} (h₁ : R = (n * k) * l) (h₂ : R = n * (k * l))
    (f : Fin R → M) (i : Fin n) :
    ∑ j : Fin k, ∑ p : Fin l, f (pick h₁ (pick rfl i j) p) = ∑ q : Fin (k * l), f (pick h₂ i q) := by
  rw [sum_pick (rfl : k * l = k * l) fun q => f (pick h₂ i q)]
  refine Finset.sum_congr rfl fun j _ => Finset.sum_congr rfl fun p _ => congrArg f (Fin.ext ?_)
  show (i.val * k + j.val) * l + p.val = i.val * (k * l) + (j.val * l + p.val)
  ring

/-- The sums over the groups of rows, column by column. -/
def grouped {R n k D : ℕ} (h : R = n * k) (X : Fin R → Fin D → EReal) (i : Fin n) (d : Fin D) : EReal :=
  ∑ j : Fin k, X (pick h i j) d

theorem real_grouped {R n k D : ℕ} (h : R = n * k) {X : Fin R → Fin D → EReal} (hX : ∀ i d, Real' (X i d)) (i : Fin n) (d : Fin D) :
    Real' (grouped h X i d) :=
  Real'.sum _ fun _ => hX _ _

/-! ## Layers -/

/-- A linear map of the rows. -/
def linear {N K M : ℕ} (P : Fin N → Fin K → EReal) (W : Fin K → Fin M → EReal) (i : Fin N) (d : Fin M) : EReal :=
  ∑ e, P i e * W e d

/-- The same and a bias. -/
def affine {N K M : ℕ} (P : Fin N → Fin K → EReal) (W : Fin K → Fin M → EReal) (b : Fin M → EReal) (i : Fin N) (d : Fin M) : EReal :=
  linear P W i d + b d

/-- A normalisation of each column, cut at zero. -/
def activated {N M : ℕ} (bn : (Fin N → EReal) → EReal → EReal → Fin N → EReal) (A : Fin N → Fin M → EReal) (g b : Fin M → EReal)
    (i : Fin N) (d : Fin M) : EReal :=
  max (bn (fun j => A j d) (g d) (b d) i) 0

/-- A network: two affine maps, each normalised and cut at zero. -/
def network {N K M L : ℕ} (bn : (Fin N → EReal) → EReal → EReal → Fin N → EReal) (P : Fin N → Fin K → EReal)
    (Wa : Fin K → Fin M → EReal) (ba g be : Fin M → EReal) (Wb : Fin M → Fin L → EReal) (bb g' be' : Fin L → EReal) :
    Fin N → Fin L → EReal :=
  activated bn (affine (activated bn (affine P Wa ba) g be) Wb bb) g' be'

theorem real_affine {N K M : ℕ} {P : Fin N → Fin K → EReal} {W : Fin K → Fin M → EReal} {b : Fin M → EReal}
    (hP : ∀ i e, Real' (P i e)) (hW : ∀ e d, Real' (W e d)) (hb : ∀ d, Real' (b d)) (i : Fin N) (d : Fin M) :
    Real' (affine P W b i d) :=
  (Real'.sum _ fun e => (hP i e).mul (hW e d)).add (hb d)

section Equal

variable {N M : ℕ} {n ε : ℝ} (hn : 0 < n) (hε : 0 < ε) (hc : (N : ℝ) = n)

include hn hε hc

/-- The kernel's normalisation and the reference's agree on real columns. -/
theorem activated_eq {A : Fin N → Fin M → EReal} {g : Fin M → EReal} (b : Fin M → EReal) (hA : ∀ i d, Real' (A i d))
    (hg : ∀ d, Real' (g d)) : activated (folded n ε) A g b = activated (plain n ε) A g b := by
  funext i d
  unfold activated
  rw [folded_eq_plain hn hε (by rw [Fintype.card_fin]; exact hc) (fun j => hA j d) (hg d)]

theorem real_activated {A : Fin N → Fin M → EReal} {g b : Fin M → EReal} (hA : ∀ i d, Real' (A i d))
    (hg : ∀ d, Real' (g d)) (hb : ∀ d, b d < ⊤) (i : Fin N) (d : Fin M) : Real' (activated (plain n ε) A g b i d) :=
  real_relu_plain hn hε (by rw [Fintype.card_fin]; exact hc) (fun j => hA j d) (hg d) (hb d) i

variable {K L : ℕ} {P : Fin N → Fin K → EReal} {Wa : Fin K → Fin M → EReal} {ba g be : Fin M → EReal}
  {Wb : Fin M → Fin L → EReal} {bb g' be' : Fin L → EReal}
  (hP : ∀ i e, Real' (P i e)) (hWa : ∀ e d, Real' (Wa e d)) (hba : ∀ d, Real' (ba d)) (hg : ∀ d, Real' (g d)) (hbe : ∀ d, be d < ⊤)
  (hWb : ∀ e d, Real' (Wb e d)) (hbb : ∀ d, Real' (bb d)) (hg' : ∀ d, Real' (g' d))

include hP hWa hba hg hbe hWb hbb hg'

theorem network_eq : network (folded n ε) P Wa ba g be Wb bb g' be' = network (plain n ε) P Wa ba g be Wb bb g' be' := by
  unfold network
  have h₁ := real_affine hP hWa hba
  rw [activated_eq hn hε hc be h₁ hg]
  exact activated_eq hn hε hc be' (real_affine (real_activated hn hε hc h₁ hg hbe) hWb hbb) hg'

theorem real_network (hbe' : ∀ d, be' d < ⊤) (i : Fin N) (d : Fin L) :
    Real' (network (plain n ε) P Wa ba g be Wb bb g' be' i d) :=
  real_activated hn hε hc (real_affine (real_activated hn hε hc (real_affine hP hWa hba) hg hbe) hWb hbb) hg' hbe' i d

end Equal

end Cert.Tree

end
-- ==== Proof.KernelRead.lean ====
/- The kernel's arithmetic over the extended reals, read at an index. -/
module

public import proofs.«01_k».proof.Proof.Network
public import proofs.«01_k».proof.Proof.Slots

@[expose] public section

set_option maxRecDepth 16384

noncomputable section

namespace Cert.Tree

open Idealize.ShloMosaic

/-! ## Constants -/

/-- The constant added to the variances. -/
def eps : ℝ := 10995116 / 2 ^ 40

theorem eps_pos : 0 < eps := by unfold eps; norm_num

theorem ofBits_eps : Ideal.ofBits .f32 0x3727C5AC#32 = ((eps : ℝ) : EReal) := by
  unfold eps; simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_inv : Ideal.ofBits .f32 0x38800000#32 = ((1 / 16384 : ℝ) : EReal) := by
  simp [Ideal.ofBits, Ideal.ieee, -EReal.coe_mul]; norm_num

/-- Multiplying by the reciprocal is dividing. -/
theorem mul_inv (x : EReal) : x * Ideal.ofBits .f32 0x38800000#32 = Ideal.div x ((16384 : ℝ) : EReal) := by
  rw [ofBits_inv, Ideal.div_coe (by norm_num) x]

/-- A matrix by its row and column. -/
abbrev mat {N M : ℕ} (v : (⟨2, ![N, M]⟩ : Shape).Idx → EReal) (i : Fin N) (d : Fin M) : EReal := v (ix2 i d)

/-- A one-row matrix by its column. -/
abbrev vec {M : ℕ} (v : (⟨2, ![1, M]⟩ : Shape).Idx → EReal) (d : Fin M) : EReal := v (ix2 0 d)

/-- The sums of the leaves of each node. -/
def pool (L : (⟨3, ![16384, 8, 128]⟩ : Shape).Idx → EReal) (i : Fin 16384) (e : Fin 128) : EReal := ∑ j : Fin 8, L (ix3 i j e)

end Cert.Tree

namespace Cert.KernelIdeal.Tree

open Idealize.ShloMosaic Idealize.ShloMosaic.TcCoe Idealize.ShloMosaic.Tactic
open Cert.KernelIdeal Cert.KernelIdeal.Gen Cert.Tree

section Parts

variable {F : FTy → Type} [FloatOps F]

/-! ## The second network's last layer -/

/-- The second network's second linear layer. -/
def secondLinear (v609 : FVec F S256x128 .f32) (v613 v626 : FVec F S1x128 .f32) (v627 : Vec F S1x128 .f32) (v637 : Vec F S128x128 .f32)
    (v639 : Vec F S1x128 .f32) : FVec F S256x128 .f32 :=
  have v628 : FVec F S1x128 .f32 := shapeCast S1x128 v627 shapeCasts_S1x128_S1x128
  have v629 : FVec F S1x128 .f32 := mulf v613 v626
  have v630 : FVec F S1x128 .f32 := subf v628 v629
  have v631 : FVec F S256x128 .f32 := broadcastTo S256x128 v626 broadcasts_S1x128_S256x128
  have v632 : FVec F S256x128 .f32 := mulf v609 v631
  have v633 : FVec F S256x128 .f32 := broadcastTo S256x128 v630 broadcasts_S1x128_S256x128
  have v634 : FVec F S256x128 .f32 := addf v632 v633
  have c516 : F .f32 := Scalar.ofBits .f32 0x00000000#32
  have v635 : FVec F S256x128 .f32 := broadcast S256x128 c516
  have v636 : FVec F S256x128 .f32 := maximumf v634 v635
  have c519 : FVec F S256x128 .f32 := constant S256x128 .f32 0x00000000#32
  have v638 : FVec F S256x128 .f32 := matmul dot_S256x128_S128x128_S256x128_1_0_0_1_n_n none v636 v637 c519
  have v640 : FVec F S1x128 .f32 := shapeCast S1x128 v639 shapeCasts_S1x128_S1x128
  have v641 : FVec F S256x128 .f32 := broadcastTo S256x128 v640 broadcasts_S1x128_S256x128
  have v642 : FVec F S256x128 .f32 := addf v638 v641
  v642

/-- The last normalisation, cut at zero. -/
def lastActivated (v642 : FVec F S256x128 .f32) (v657 v660 : Vec F S1x128 .f32) : FVec F S256x128 .f32 :=
  have v643 : FVec F S128 .f32 := multiReduction .add [0] S128 v642 0x00000000#32 reduces_S256x128_S128 (.inl rfl) rfl
  have v644 : FVec F S1x128 .f32 := shapeCast S1x128 v643 shapeCasts_S128_S1x128
  have c523 : F .f32 := Scalar.ofBits .f32 0x43800000#32
  have v645 : FVec F S1x128 .f32 := broadcast S1x128 c523
  have v646 : FVec F S1x128 .f32 := divf v644 v645
  have v647 : FVec F S256x128 .f32 := mulf v642 v642
  have v648 : FVec F S128 .f32 := multiReduction .add [0] S128 v647 0x00000000#32 reduces_S256x128_S128 (.inl rfl) rfl
  have v649 : FVec F S1x128 .f32 := shapeCast S1x128 v648 shapeCasts_S128_S1x128
  have c525 : F .f32 := Scalar.ofBits .f32 0x43800000#32
  have v650 : FVec F S1x128 .f32 := broadcast S1x128 c525
  have v651 : FVec F S1x128 .f32 := divf v649 v650
  have v652 : FVec F S1x128 .f32 := mulf v646 v646
  have v653 : FVec F S1x128 .f32 := subf v651 v652
  have c526 : F .f32 := Scalar.ofBits .f32 0x3727C5AC#32
  have v654 : FVec F S1x128 .f32 := broadcast S1x128 c526
  have v655 : FVec F S1x128 .f32 := addf v653 v654
  have v656 : FVec F S1x128 .f32 := rsqrt v655
  have v658 : FVec F S1x128 .f32 := shapeCast S1x128 v657 shapeCasts_S1x128_S1x128
  have v659 : FVec F S1x128 .f32 := mulf v656 v658
  have v661 : FVec F S1x128 .f32 := shapeCast S1x128 v660 shapeCasts_S1x128_S1x128
  have v662 : FVec F S1x128 .f32 := mulf v646 v659
  have v663 : FVec F S1x128 .f32 := subf v661 v662
  have v664 : FVec F S256x128 .f32 := broadcastTo S256x128 v659 broadcasts_S1x128_S256x128
  have v665 : FVec F S256x128 .f32 := mulf v642 v664
  have v666 : FVec F S256x128 .f32 := broadcastTo S256x128 v663 broadcasts_S1x128_S256x128
  have v667 : FVec F S256x128 .f32 := addf v665 v666
  have c531 : F .f32 := Scalar.ofBits .f32 0x00000000#32
  have v668 : FVec F S256x128 .f32 := broadcast S256x128 c531
  have v669 : FVec F S256x128 .f32 := maximumf v667 v668
  v669

theorem k0_pay111_eq (v609 : FVec F S256x128 .f32) (v613 v626 : FVec F S1x128 .f32) (v627 : Vec F S1x128 .f32) (v637 : Vec F S128x128 .f32)
    (v639 v657 v660 : Vec F S1x128 .f32) :
    k0_pay111 v609 v613 v626 v627 v637 v639 v657 v660 = lastActivated (secondLinear v609 v613 v626 v627 v637 v639) v657 v660 := rfl

end Parts

/-! ## The chunks -/

theorem chunk_at (L : Vec Ideal S16384x8x128 .f32) (k : Fin 16) (i : Fin 1024) (j : Fin 8) (d : Fin 128) :
    chunk L k (ix4 0 i j d) = L (ix3 (pick (n := 16) (k := 1024) rfl k i) j d) := by
  have h : ∀ v : Vec Ideal S1024x8x128 .f32, shapeCast S1x1024x8x128 v shapeCasts_S1x1024x8x128_S1024x8x128.symm (ix4 0 i j d)
      = v (ix3 i j d) := fun v => by pointwise []
  refine (h _).trans (congrArg L (funext fun a => ?_))
  fin_cases a
  · exact Fin.ext (by show 1024 * k.val + 1 * i.val = k.val * 1024 + i.val; omega)
  · exact Fin.ext (by show 0 + 1 * j.val = j.val; omega)
  · exact Fin.ext (by show 0 + 1 * d.val = d.val; omega)

theorem pool_at (L : Vec Ideal S16384x8x128 .f32) (k : Fin 16) (i : Fin 1024) (d : Fin 128) :
    k0_pay10 (chunk L k) (ix2 i d) = pool L (pick (n := 16) (k := 1024) rfl k i) d := by
  pointwise [k0_pay10]
  exact Finset.sum_congr rfl fun j _ => chunk_at L k i j d

theorem lin_at (L : Vec Ideal S16384x8x128 .f32) (Wa : Vec Ideal S128x128 .f32) (ba : Vec Ideal S1x128 .f32) (k : Fin 16)
    (i : Fin 1024) (d : Fin 128) :
    lin L Wa ba k (ix2 i d) = affine (pool L) (mat Wa) (vec ba) (pick (n := 16) (k := 1024) rfl k i) d := by
  unfold lin
  pointwise [k0_pay12]
  refine congrArg (· + ba (ix2 0 d)) (Finset.sum_congr rfl fun e _ => ?_)
  rw [pool_at]

/-- Row `r` is row `r % 1024` of chunk `r / 1024`. -/
theorem pick_row {R B : ℕ} [NeZero B] (h : R = 16 * B) (r : Fin R) :
    pick h (Fin.ofNat 16 (r.val / B)) (Fin.ofNat B r.val) = r := by
  have hB : 0 < B := Nat.pos_of_ne_zero (NeZero.ne B)
  have hr : r.val / B < 16 := (Nat.div_lt_iff_lt_mul hB).2 (h ▸ r.isLt)
  refine Fin.ext ?_
  show r.val / B % 16 * B + r.val % B = r.val
  rw [Nat.mod_eq_of_lt hr]
  exact Nat.div_add_mod' r.val B

theorem linear_at (L : Vec Ideal S16384x8x128 .f32) (Wa : Vec Ideal S128x128 .f32) (ba : Vec Ideal S1x128 .f32) (r : Fin 16384)
    (d : Fin 128) : stacked 16384 (lin L Wa ba) (ix2 r d) = affine (pool L) (mat Wa) (vec ba) r d := by
  have h := lin_at L Wa ba (Fin.ofNat 16 (r.val / 1024)) (Fin.ofNat 1024 r.val) d
  rw [pick_row] at h
  exact h

theorem trees_at (L : Vec Ideal S16384x8x128 .f32) (r : Fin 256) (d : Fin 128) :
    stacked 256 (fun k => k0_pay99 (chunk L k)) (ix2 r d) = grouped (n := 256) (k := 64) rfl (pool L) r d := by
  have h : ∀ (k : Fin 16) (i : Fin 16), k0_pay99 (chunk L k) (ix2 i d)
      = grouped (n := 256) (k := 64) rfl (pool L) (pick (n := 16) (k := 16) rfl k i) d := fun k i => by
    pointwise [k0_pay99]
    refine Finset.sum_congr rfl fun j _ => (pool_at L k _ d).trans (congrArg (fun r => pool L r d) (Fin.ext ?_))
    show k.val * 1024 + (i.val * 64 + j.val) = (k.val * 16 + i.val) * 64 + j.val
    omega
  have h' := h (Fin.ofNat 16 (r.val / 16)) (Fin.ofNat 16 r.val)
  rw [pick_row] at h'
  exact h'

/-! ## The column sums -/

theorem colSums_at (p : Fin 16 → FVec Ideal S1024x128 .f32) (d : Fin 128) : ∀ (n : ℕ) (h : n ≤ 16),
    colSums p n h (ix2 0 d) = ∑ k : Fin n, ∑ i : Fin 1024, p (Fin.castLE h k) (ix2 i d)
  | 0, _ => by
    unfold colSums
    pointwise [k0_pay2]
    exact Finset.sum_empty.symm
  | n + 1, h => by
    rw [Fin.sum_univ_castSucc]
    have ih := colSums_at p d n (Nat.le_of_succ_le h)
    unfold colSums
    pointwise [k0_pay14]
    rw [ih]
    rfl

theorem colSquares_at (p : Fin 16 → FVec Ideal S1024x128 .f32) (d : Fin 128) : ∀ (n : ℕ) (h : n ≤ 16),
    colSquares p n h (ix2 0 d) = ∑ k : Fin n, ∑ i : Fin 1024, p (Fin.castLE h k) (ix2 i d) * p (Fin.castLE h k) (ix2 i d)
  | 0, _ => by
    unfold colSquares
    pointwise [k0_pay3]
    exact Finset.sum_empty.symm
  | n + 1, h => by
    rw [Fin.sum_univ_castSucc]
    have ih := colSquares_at p d n (Nat.le_of_succ_le h)
    unfold colSquares
    pointwise [k0_pay15]
    rw [ih]
    rfl

theorem sums_at (L : Vec Ideal S16384x8x128 .f32) (Wa : Vec Ideal S128x128 .f32) (ba : Vec Ideal S1x128 .f32) (d : Fin 128) :
    colSums (lin L Wa ba) 16 (le_refl _) (ix2 0 d) = ∑ r, affine (pool L) (mat Wa) (vec ba) r d := by
  rw [colSums_at, sum_pick (n := 16) (k := 1024) rfl]
  exact Finset.sum_congr rfl fun k _ => Finset.sum_congr rfl fun i _ => lin_at L Wa ba k i d

theorem squares_at (L : Vec Ideal S16384x8x128 .f32) (Wa : Vec Ideal S128x128 .f32) (ba : Vec Ideal S1x128 .f32) (d : Fin 128) :
    colSquares (lin L Wa ba) 16 (le_refl _) (ix2 0 d)
      = ∑ r, affine (pool L) (mat Wa) (vec ba) r d * affine (pool L) (mat Wa) (vec ba) r d := by
  rw [colSquares_at, sum_pick (n := 16) (k := 1024) rfl]
  exact Finset.sum_congr rfl fun k _ => Finset.sum_congr rfl fun i _ => congrArg₂ (· * ·) (lin_at L Wa ba k i d) (lin_at L Wa ba k i d)

/-! ## The layers -/

section Layers

variable (s q : FVec Ideal S1x128 .f32) (A : Vec Ideal S16384x128 .f32) (x3 x4 : Vec Ideal S1x128 .f32) (x5 : Vec Ideal S128x128 .f32)
  (x6 x7 x8 : Vec Ideal S1x128 .f32)

theorem nodes_at (hs : ∀ e, s (ix2 0 e) = ∑ r, A (ix2 r e)) (hq : ∀ e, q (ix2 0 e) = ∑ r, A (ix2 r e) * A (ix2 r e))
    (i : Fin 16384) (d : Fin 128) :
    k0_pay104 s q x3 x4 A x5 x6 (ix2 i d)
      = affine (activated (folded 16384 eps) (mat A) (vec x3) (vec x4)) (mat x5) (vec x6) i d := by
  pointwise [k0_pay104]
  simp only [mul_inv, ofBits_eps, hs, hq]
  rfl

theorem mean_nodes_at (B : Fin 16384 → Fin 128 → EReal) (hB : ∀ i d, k0_pay104 s q x3 x4 A x5 x6 (ix2 i d) = B i d) (d : Fin 128) :
    k0_pay105 s q x3 x4 A x5 x6 (ix2 0 d) = mean 16384 fun r => B r d := by
  pointwise [k0_pay105]
  simp only [ofBits_16384, hB]
  rfl

theorem var_nodes_at (B : Fin 16384 → Fin 128 → EReal) (hB : ∀ i d, k0_pay104 s q x3 x4 A x5 x6 (ix2 i d) = B i d) (d : Fin 128) :
    k0_pay106 s q x3 x4 A x5 x6 (ix2 0 d)
      = mean 16384 (fun r => B r d * B r d) - mean 16384 (fun r => B r d) * mean 16384 (fun r => B r d) := by
  pointwise [k0_pay106]
  simp only [ofBits_16384, hB, mean_nodes_at s q A x3 x4 x5 x6 B hB]
  rfl

theorem pooled2_at (B : Fin 16384 → Fin 128 → EReal) (hB : ∀ i d, k0_pay104 s q x3 x4 A x5 x6 (ix2 i d) = B i d) (t : Fin 256)
    (d : Fin 128) :
    pooled2 s q A x3 x4 x5 x6 x7 x8 (ix2 t d)
      = grouped (n := 256) (k := 64) rfl (activated (folded 16384 eps) B (vec x7) (vec x8)) t d := by
  pointwise [pooled2, k0_pay107]
  simp only [ofBits_eps, hB, mean_nodes_at s q A x3 x4 x5 x6 B hB, var_nodes_at s q A x3 x4 x5 x6 B hB]
  rfl

theorem top_linear_at (Q : Fin 256 → Fin 128 → EReal) (hQ : ∀ i d, pooled2 s q A x3 x4 x5 x6 x7 x8 (ix2 i d) = Q i d)
    (x9 : Vec Ideal S128x128 .f32) (x10 : Vec Ideal S1x128 .f32) (i : Fin 256) (d : Fin 128) :
    k0_pay108 (k0_pay104 s q x3 x4 A x5 x6) (k0_pay105 s q x3 x4 A x5 x6) (k0_pay106 s q x3 x4 A x5 x6)
      (FloatOps.ofBits FTy.f32 0x3727C5AC#32) x7 x8 x9 x10 (ix2 i d) = affine Q (mat x9) (vec x10) i d := by
  have h : ∀ i d, k0_pay107 (k0_pay104 s q x3 x4 A x5 x6) (k0_pay105 s q x3 x4 A x5 x6) (k0_pay106 s q x3 x4 A x5 x6)
      (FloatOps.ofBits FTy.f32 0x3727C5AC#32) x7 x8 (ix2 i d) = Q i d := hQ
  pointwise [k0_pay108]
  simp only [Ideal.ofBits_def] at h
  simp only [h]
  rfl

end Layers

section Top

variable (A : FVec Ideal S16384x128 .f32) (m v : FVec Ideal S1x128 .f32) (ε : Ideal .f32) (x7 x8 : Vec Ideal S1x128 .f32)
  (x9 : Vec Ideal S128x128 .f32) (x10 x11 x12 : Vec Ideal S1x128 .f32) (x13 : Vec Ideal S128x128 .f32) (x14 x15 x16 : Vec Ideal S1x128 .f32)
  (B : Fin 256 → Fin 128 → EReal) (hB : ∀ i d, k0_pay108 A m v ε x7 x8 x9 x10 (ix2 i d) = B i d)

include hB

theorem top_mean_at (d : Fin 128) : k0_pay109 A m v ε x7 x8 x9 x10 (ix2 0 d) = mean 256 fun r => B r d := by
  pointwise [k0_pay109]
  simp only [ofBits_256, hB]
  rfl

theorem top_scale_at (d : Fin 128) : k0_pay110 A m v ε x7 x8 x9 x10 x11 (ix2 0 d) = scale 256 eps (fun r => B r d) (vec x11 d) := by
  pointwise [k0_pay110]
  simp only [ofBits_256, ofBits_eps, hB, top_mean_at A m v ε x7 x8 x9 x10 B hB]
  rfl

theorem second_linear_at (i : Fin 256) (d : Fin 128) :
    secondLinear (k0_pay108 A m v ε x7 x8 x9 x10) (k0_pay109 A m v ε x7 x8 x9 x10) (k0_pay110 A m v ε x7 x8 x9 x10 x11) x12 x13 x14 (ix2 i d)
      = affine (activated (folded 256 eps) B (vec x11) (vec x12)) (mat x13) (vec x14) i d := by
  pointwise [secondLinear]
  simp only [hB, top_mean_at A m v ε x7 x8 x9 x10 B hB, top_scale_at A m v ε x7 x8 x9 x10 x11 B hB]
  rfl

omit hB in
theorem last_at (C : FVec Ideal S256x128 .f32) (D : Fin 256 → Fin 128 → EReal) (hD : ∀ i d, C (ix2 i d) = D i d) (i : Fin 256) (d : Fin 128) :
    lastActivated C x15 x16 (ix2 i d) = activated (folded 256 eps) D (vec x15) (vec x16) i d := by
  pointwise [lastActivated]
  simp only [ofBits_256, ofBits_eps, hD]
  rfl

end Top

/-! ## The scores -/

/-- The scores by their parts: the linear maps of the trees' leaf sums, of the pooled nodes and of the second network's output,
    and the joined bias. -/
def kernelScores (P : Fin 16384 → Fin 128 → EReal) (Q : Fin 256 → Fin 128 → EReal) (H : Fin 256 → Fin 128 → EReal)
    (W₀ W₁ W₂ : Fin 128 → Fin 16 → EReal) (b : Fin 16 → EReal) (t : Fin 256) (d : Fin 16) : EReal :=
  linear (grouped (n := 256) (k := 64) rfl P) W₀ t d + linear Q W₁ t d + linear H W₂ t d + b d

theorem scores_at (L : Vec Ideal S16384x8x128 .f32) (x1 : Vec Ideal S128x128 .f32) (x2 x3 x4 : Vec Ideal S1x128 .f32)
    (x5 : Vec Ideal S128x128 .f32) (x6 x7 x8 : Vec Ideal S1x128 .f32) (x9 : Vec Ideal S128x128 .f32) (x10 x11 x12 : Vec Ideal S1x128 .f32)
    (x13 : Vec Ideal S128x128 .f32) (x14 x15 x16 : Vec Ideal S1x128 .f32) (x17 x18 x19 : Vec Ideal S128x16 .f32) (x20 : Vec Ideal S1x16 .f32)
    (Q H : Fin 256 → Fin 128 → EReal)
    (hQ : Q = grouped (n := 256) (k := 64) rfl
      (network (folded 16384 eps) (pool L) (mat x1) (vec x2) (vec x3) (vec x4) (mat x5) (vec x6) (vec x7) (vec x8)))
    (hH : H = network (folded 256 eps) Q (mat x9) (vec x10) (vec x11) (vec x12) (mat x13) (vec x14) (vec x15) (vec x16))
    (t : Fin 256) (d : Fin 16) :
    scores L x1 x2 x3 x4 x5 x6 x7 x8 x9 x10 x11 x12 x13 x14 x15 x16 x17 x18 x19 x20 (ix2 t d)
      = kernelScores (pool L) Q H (mat x17) (mat x18) (mat x19) (vec x20) t d := by
  have hA : mat (stacked 16384 (lin L x1 x2)) = affine (pool L) (mat x1) (vec x2) :=
    funext fun r => funext fun e => linear_at L x1 x2 r e
  have hs : ∀ e, colSums (lin L x1 x2) 16 (le_refl _) (ix2 0 e) = ∑ r, stacked 16384 (lin L x1 x2) (ix2 r e) := fun e =>
    (sums_at L x1 x2 e).trans (Finset.sum_congr rfl fun r _ => (linear_at L x1 x2 r e).symm)
  have hq : ∀ e, colSquares (lin L x1 x2) 16 (le_refl _) (ix2 0 e)
      = ∑ r, stacked 16384 (lin L x1 x2) (ix2 r e) * stacked 16384 (lin L x1 x2) (ix2 r e) := fun e =>
    (squares_at L x1 x2 e).trans (Finset.sum_congr rfl fun r _ => congrArg₂ (· * ·) (linear_at L x1 x2 r e).symm (linear_at L x1 x2 r e).symm)
  have h4 := nodes_at _ _ _ x3 x4 x5 x6 hs hq
  rw [hA] at h4
  have hP : ∀ i e, pooled2 (colSums (lin L x1 x2) 16 (le_refl _)) (colSquares (lin L x1 x2) 16 (le_refl _))
      (stacked 16384 (lin L x1 x2)) x3 x4 x5 x6 x7 x8 (ix2 i e) = Q i e := fun i e => by
    rw [hQ]; exact pooled2_at _ _ _ x3 x4 x5 x6 x7 x8 _ h4 i e
  have h8 := top_linear_at _ _ _ x3 x4 x5 x6 x7 x8 Q hP x9 x10
  have hT : ∀ i e, top (colSums (lin L x1 x2) 16 (le_refl _)) (colSquares (lin L x1 x2) 16 (le_refl _))
      (stacked 16384 (lin L x1 x2)) x3 x4 x5 x6 x7 x8 x9 x10 x11 x12 x13 x14 x15 x16 (ix2 i e) = H i e := fun i e => by
    rw [hH]
    unfold top
    rw [k0_pay111_eq]
    exact last_at x15 x16 _ _ (second_linear_at _ _ _ _ x7 x8 x9 x10 x11 x12 x13 x14 _ h8) i e
  unfold scores
  pointwise [k0_pay1]
  simp only [hP, hT, trees_at]
  rfl

end Cert.KernelIdeal.Tree

end
-- ==== Proof.Scatter.lean ====
/- The sum of the rows of each group, as the host's scatter with addition computes it from the rows' group numbers. -/
module

public import proofs.«01_k».proof.Proof.Network
public import Idealize.ShloMosaic.Lib.Pointwise

@[expose] public section

noncomputable section

namespace Cert.Tree

open Idealize.ShloMosaic

variable {N R k : ℕ} (d : ScatterDims (⟨2, ![N, 128]⟩ : Shape) (⟨2, ![R, 1]⟩ : Shape) (⟨2, ![R, 128]⟩ : Shape))

/-- The scatter adds each row of the updates to the row its one index names. -/
def RowScatter : Prop :=
  d.updateWindowDims = [1] ∧ d.insertedWindowDims = [0] ∧ d.scatterDimsToOperandDims = [0] ∧ d.indexVectorDim = 1

variable {d} (hd : RowScatter d)

include hd

theorem start_zero (idx : IVec (⟨2, ![R, 1]⟩ : Shape) 32) (r : Fin R) (c : Fin 128) :
    d.start (ix2 r c) idx 0 = (idx (ix2 r 0)).toInt := by
  obtain ⟨uw, iw, sd, iv, wf⟩ := d
  obtain ⟨rfl, rfl, rfl, rfl⟩ := hd
  unfold ScatterDims.start
  rw [dif_pos (by simp)]
  refine congrArg (fun y => (idx y).toInt) (funext fun b => ?_)
  fin_cases b
  · rfl
  · exact Fin.ext rfl

theorem start_one (idx : IVec (⟨2, ![R, 1]⟩ : Shape) 32) (j) : d.start j idx 1 = 0 := by
  obtain ⟨uw, iw, sd, iv, wf⟩ := d
  obtain ⟨rfl, rfl, rfl, rfl⟩ := hd
  unfold ScatterDims.start
  exact dif_neg (by simp)

theorem window_zero (j) : d.window j 0 = 0 := by
  obtain ⟨uw, iw, sd, iv, wf⟩ := d
  obtain ⟨rfl, rfl, rfl, rfl⟩ := hd
  rfl

theorem window_one (r : Fin R) (c : Fin 128) : d.window (ix2 r c) 1 = c.val := by
  obtain ⟨uw, iw, sd, iv, wf⟩ := d
  obtain ⟨rfl, rfl, rfl, rfl⟩ := hd
  rfl

/-- A row with group number `i` lands in row `i`. -/
theorem resultIdx_at (idx : IVec (⟨2, ![R, 1]⟩ : Shape) 32) (r : Fin R) (c : Fin 128) (i : Fin N)
    (hi : (idx (ix2 r 0)).toInt = (i.val : ℤ)) : d.resultIdx? (ix2 r c) idx = some (ix2 i c) := by
  have h0 : d.start (ix2 r c) idx 0 + (d.window (ix2 r c) 0 : ℤ) = (i.val : ℤ) := by
    rw [start_zero hd, window_zero hd, hi]; simp
  have h1 : d.start (ix2 r c) idx 1 + (d.window (ix2 r c) 1 : ℤ) = (c.val : ℤ) := by
    rw [start_one hd, window_one hd]; simp
  have hin : ∀ a, 0 ≤ d.start (ix2 r c) idx a + d.window (ix2 r c) a ∧
      d.start (ix2 r c) idx a + d.window (ix2 r c) a < ((⟨2, ![N, 128]⟩ : Shape).size a : ℤ) := by
    intro a
    fin_cases a
    · exact ⟨by
        show 0 ≤ d.start (ix2 r c) idx 0 + (d.window (ix2 r c) 0 : ℤ)
        rw [h0]; exact Int.natCast_nonneg _, by
        show d.start (ix2 r c) idx 0 + (d.window (ix2 r c) 0 : ℤ) < (N : ℤ)
        rw [h0]; exact_mod_cast i.isLt⟩
    · exact ⟨by
        show 0 ≤ d.start (ix2 r c) idx 1 + (d.window (ix2 r c) 1 : ℤ)
        rw [h1]; exact Int.natCast_nonneg _, by
        show d.start (ix2 r c) idx 1 + (d.window (ix2 r c) 1 : ℤ) < ((128 : ℕ) : ℤ)
        rw [h1]; exact_mod_cast c.isLt⟩
  unfold ScatterDims.resultIdx?
  rw [dif_pos hin]
  refine congrArg some (funext fun a => ?_)
  fin_cases a
  · refine Fin.ext ?_
    show (d.start (ix2 r c) idx 0 + (d.window (ix2 r c) 0 : ℤ)).toNat = i.val
    rw [h0]; exact Int.toNat_natCast _
  · refine Fin.ext ?_
    show (d.start (ix2 r c) idx 1 + (d.window (ix2 r c) 1 : ℤ)).toNat = c.val
    rw [h1]; exact Int.toNat_natCast _

/-- When row `r` has the group number `r / k`, row `i` of the scatter is what was there and the sum of group `i`. -/
theorem scatter_at (h : R = N * k) (x : FVec Ideal (⟨2, ![N, 128]⟩ : Shape) .f32) (idx : IVec (⟨2, ![R, 1]⟩ : Shape) 32)
    (upd : FVec Ideal (⟨2, ![R, 128]⟩ : Shape) .f32) (hidx : ∀ r : Fin R, (idx (ix2 r 0)).toInt = ((r.val / k : ℕ) : ℤ)) (i : Fin N)
    (c : Fin 128) : Host.scatterAdd d x idx upd (ix2 i c) = x (ix2 i c) + grouped h (fun r e => upd (ix2 r e)) i c := by
  show x (ix2 i c) + _ = _
  refine congrArg (x (ix2 i c) + ·) ?_
  have hlt : ∀ r : Fin R, r.val / k < N := fun r => Nat.div_lt_of_lt_mul (by
    have := r.isLt.trans_eq h; rwa [Nat.mul_comm] at this)
  have hres : ∀ (r : Fin R) (e : Fin 128), d.resultIdx? (ix2 r e) idx = some (ix2 ⟨r.val / k, hlt r⟩ e) := fun r e =>
    resultIdx_at hd idx r e ⟨r.val / k, hlt r⟩ (hidx r)
  have hix : ∀ j : (⟨2, ![R, 128]⟩ : Shape).Idx, ∃ (r : Fin R) (e : Fin 128), j = ix2 r e := fun j =>
    ⟨j 0, j 1, by funext a; fin_cases a <;> rfl⟩
  unfold grouped
  symm
  refine Finset.sum_bij (fun (q : Fin k) _ => ix2 (pick h i q) c) ?_ ?_ ?_ ?_
  · intro q _
    rw [Finset.mem_filter]
    refine ⟨Finset.mem_univ _, (hres _ _).trans (congrArg (fun r => some (ix2 r c)) (Fin.ext ?_))⟩
    show (i.val * k + q.val) / k = i.val
    rw [Nat.mul_comm, Nat.mul_add_div (Nat.zero_lt_of_lt q.isLt), Nat.div_eq_of_lt q.isLt, Nat.add_zero]
  · intro q _ q' _ he
    have : i.val * k + q.val = i.val * k + q'.val := congrArg (fun j => (j 0).val) he
    exact Fin.ext (Nat.add_left_cancel this)
  · intro j hj
    obtain ⟨r, e, rfl⟩ := hix j
    rw [Finset.mem_filter, hres] at hj
    have he := Option.some.inj hj.2
    have h0 : r.val / k = i.val := congrArg (fun y => (y 0).val) he
    have h1 : e = c := congrArg (fun y => y 1) he
    have hk : 0 < k := by
      rcases Nat.eq_zero_or_pos k with rfl | hk
      · exact absurd (r.isLt.trans_eq h) (by simp)
      · exact hk
    refine ⟨⟨r.val % k, Nat.mod_lt _ hk⟩, Finset.mem_univ _, ?_⟩
    rw [← h1]
    refine congrArg (fun r => ix2 r e) (Fin.ext ?_)
    show i.val * k + r.val % k = r.val
    rw [← h0]
    exact Nat.div_add_mod' _ _
  · intro q _; rfl

end Cert.Tree

end
-- ==== Proof.ReferenceRead.lean ====
/- The reference's arithmetic over the extended reals, read at an index. -/
module

public import proofs.«01_k».proof.Proof.KernelRead
public import proofs.«01_k».proof.Proof.Scatter
public import proofs.«01_k».proof.Proof.Gen.ReferenceIdeal.Read

@[expose] public section

set_option maxRecDepth 16384

noncomputable section

namespace Cert.ReferenceIdeal.Tree

open Idealize.ShloMosaic Idealize.ShloMosaic.TcCoe Idealize.ShloMosaic.StableHlo
open Cert.ReferenceIdeal Cert.ReferenceIdeal.Gen Cert.ReferenceIdeal.Read Cert.Tree

/-! ## A normalisation as the reference computes it -/

section Normalise

variable {F : FTy → Type} [FloatOps F]

/-- A matrix of `N` rows. -/
abbrev SN (N : ℕ) : Shape := ⟨2, ![N, 128]⟩

variable {N : ℕ} (hr : (SN N).ReducesTo [0] S128) (hb : S1x128.BroadcastsInDim (SN N) ![0, 1])
  (hz : S_.BroadcastsInDim (SN N) ![]) (w : BitVec 32)

/-- A row under every row of a matrix. -/
def under (v : FVec F S128 .f32) : FVec F (SN N) .f32 :=
  broadcastInDim (SN N) ![0, 1] hb (broadcastInDim S1x128 ![1] bcast_S128_S1x128_1 v)

/-- The count a mean of squares divides by. -/
def count : FVec F S_ .f32 := subf (constant S_ .f32 w) (sitofp .f32 (constantI S_ 32 0#32))

/-- The column means of a matrix. -/
def means (A : FVec F (SN N) .f32) : FVec F S128 .f32 :=
  Host.divf (Host.reduceAdd A (constant S_ .f32 0x00000000#32) hr h_S_) (broadcastInDim S128 ![] bcast_S_S128 (constant S_ .f32 w))

/-- A matrix less its column means. -/
def centred (A : FVec F (SN N) .f32) : FVec F (SN N) .f32 :=
  subf A (broadcastInDim (SN N) ![0, 1] hb
    (Host.divf (broadcastInDim S1x128 ![1] bcast_S128_S1x128_1 (Host.reduceAdd A (constant S_ .f32 0x00000000#32) hr h_S_))
      (broadcastInDim S1x128 ![] bcast_S_S1x128 (constant S_ .f32 w))))

/-- The column variances of a matrix. -/
def variances (A : FVec F (SN N) .f32) : FVec F S128 .f32 :=
  select (broadcastInDim S128 ![] bcast_S_S128 (cmpf .ogt (count (F := F) w) (constant S_ .f32 0x00000000#32)))
    (Host.divf (Host.reduceAdd (mulf (centred hr hb w A) (centred hr hb w A)) (constant S_ .f32 0x00000000#32) hr h_S_)
      (broadcastInDim S128 ![] bcast_S_S128 (count (F := F) w)))
    (broadcastInDim S128 ![] bcast_S_S128 (id (constant S_ .f32 0x7FC00000#32)))

/-- A normalisation of a matrix, cut at zero. -/
def normalised (A : FVec F (SN N) .f32) (g b : FVec F S128 .f32) : FVec F (SN N) .f32 :=
  maximumf (addf (mulf (Host.divf (subf A (under hb (means hr w A)))
      (under hb (Host.sqrt (addf (variances hr hb w A) (broadcastInDim S128 ![] bcast_S_S128 (constant S_ .f32 0x3727C5AC#32))))))
      (under hb g)) (under hb b))
    (broadcastInDim (SN N) ![] hz (constant S_ .f32 0x00000000#32))

end Normalise

/-- A vector by its element. -/
abbrev row {M : ℕ} (v : (⟨1, ![M]⟩ : Shape).Idx → EReal) (d : Fin M) : EReal := v (ix1 d)

section Read

variable {N : ℕ} (hr : (SN N).ReducesTo [0] S128) (hb : S1x128.BroadcastsInDim (SN N) ![0, 1])
  (hz : S_.BroadcastsInDim (SN N) ![]) (w : BitVec 32) {n : ℝ} (hn : 0 < n) (hw : Ideal.ofBits .f32 w = (n : EReal))

include hn hw

theorem variances_at (A : FVec Ideal (SN N) .f32) (d : Fin 128) :
    variances hr hb w A (ix1 d)
      = mean n fun i => (A (ix2 i d) - mean n fun i => A (ix2 i d)) * (A (ix2 i d) - mean n fun i => A (ix2 i d)) := by
  have h0 : FloatOps.sitofp (F := Ideal) FTy.f32 (0#32) = (0 : EReal) := by
    show (((0#32 : BitVec 32).toInt : ℝ) : EReal) = 0
    simp
  have hc : (n : EReal) - 0 = (n : EReal) := by simp
  pointwise [variances, count, centred]
  rw [hw, h0, hc, if_pos (EReal.coe_pos.2 hn)]
  rfl

theorem normalised_at (A : FVec Ideal (SN N) .f32) (g b : FVec Ideal S128 .f32) (B : Fin N → Fin 128 → EReal)
    (hB : ∀ i d, A (ix2 i d) = B i d) (i : Fin N) (d : Fin 128) :
    normalised hr hb hz w A g b (ix2 i d) = activated (plain n eps) B (row g) (row b) i d := by
  pointwise [normalised, under, means]
  rw [variances_at hr hb w hn hw]
  simp only [hw, ofBits_eps, hB]
  rfl

end Read

/-! ## The reference's stages -/

section Stages

variable (x0 : FVec Ideal S131072x128 .f32) (x1 : IVec S131072 32) (x2 : IVec S16384 32) (x3 : IVec S131072 32) (x4 : IVec S16384 32)
  (x5 : FVec Ideal S128x128 .f32) (x6 x7 x8 : FVec Ideal S128 .f32) (x9 : FVec Ideal S128x128 .f32) (x10 x11 x12 : FVec Ideal S128 .f32)
  (x13 : FVec Ideal S128x128 .f32) (x14 x15 x16 : FVec Ideal S128 .f32) (x17 : FVec Ideal S128x128 .f32) (x18 x19 x20 : FVec Ideal S128 .f32)
  (x21 : FVec Ideal S128x16 .f32) (x22 : FVec Ideal S16 .f32) (x23 : FVec Ideal S128x16 .f32) (x24 : FVec Ideal S16 .f32)
  (x25 : FVec Ideal S128x16 .f32) (x26 : FVec Ideal S16 .f32)

/-- Every row's group number is the row's number divided by `k`. -/
def Ids {R : ℕ} (k : ℕ) (ids : IVec (⟨1, ![R]⟩ : Shape) 32) : Prop := ∀ r : Fin R, (ids (ix1 r)).toInt = ((r.val / k : ℕ) : ℤ)

variable (h1 : Ids 8 x1) (h2 : Ids 64 x2) (h3 : Ids 512 x3) (h4 : Ids 64 x4)

/-- The sums of the leaves of each node. -/
abbrev leafSums (i : Fin 16384) (e : Fin 128) : EReal := grouped (R := 131072) (n := 16384) (k := 8) rfl (mat x0) i e

include h1 in
theorem v2_at (i : Fin 16384) (e : Fin 128) : val_main_v2 (F := Ideal) x0 x1 (ix2 i e) = leafSums x0 i e := by
  unfold val_main_v2
  rw [scatter_at (d := scatter_S16384x128_S131072x1_S131072x128_1_0_0_1) ⟨rfl, rfl, rfl, rfl⟩ (k := 8) rfl]
  · pointwise [val_main_v0, val_main_cst]
  · intro r
    pointwise [val_main_v1]
    exact h1 r

include h1 in
theorem v6_at (i : Fin 16384) (d : Fin 128) :
    val_main_v6 (F := Ideal) x0 x1 x5 x6 (ix2 i d) = affine (leafSums x0) (mat x5) (row x6) i d := by
  pointwise [val_main_v6, val_main_v5, val_main_v3, val_main_v4]
  simp only [v2_at x0 x1 h1]
  rfl

theorem v26_eq : val_main_v26 (F := Ideal) x0 x1 x5 x6 x7 x8
    = normalised (N := 16384) reducesTo_S16384x128_S128_d0 bcast_S1x128_S16384x128_0_1 bcast_S_S16384x128 0x46800000#32
      (val_main_v6 x0 x1 x5 x6) x7 x8 := rfl

theorem v50_eq : val_main_v50 (F := Ideal) x0 x1 x5 x6 x7 x8 x9 x10 x11 x12
    = normalised (N := 16384) reducesTo_S16384x128_S128_d0 bcast_S1x128_S16384x128_0_1 bcast_S_S16384x128 0x46800000#32
      (val_main_v30 x0 x1 x5 x6 x7 x8 x9 x10) x11 x12 := rfl

include h1 in
theorem v30_at (i : Fin 16384) (d : Fin 128) :
    val_main_v30 (F := Ideal) x0 x1 x5 x6 x7 x8 x9 x10 (ix2 i d)
      = affine (activated (plain 16384 eps) (affine (leafSums x0) (mat x5) (row x6)) (row x7) (row x8)) (mat x9) (row x10) i d := by
  pointwise [val_main_v30, val_main_v29, val_main_v28, val_main_v27]
  simp only [v26_eq, normalised_at _ _ _ _ (by norm_num) ofBits_16384 _ _ _ _ (v6_at x0 x1 x5 x6 h1)]
  rfl

/-- The first network's output. -/
abbrev nodesOut : Fin 16384 → Fin 128 → EReal :=
  network (plain 16384 eps) (leafSums x0) (mat x5) (row x6) (row x7) (row x8) (mat x9) (row x10) (row x11) (row x12)

include h1 in
theorem v50_at (i : Fin 16384) (d : Fin 128) :
    val_main_v50 (F := Ideal) x0 x1 x5 x6 x7 x8 x9 x10 x11 x12 (ix2 i d) = nodesOut x0 x5 x6 x7 x8 x9 x10 x11 x12 i d := by
  rw [v50_eq]
  exact normalised_at _ _ _ _ (by norm_num) ofBits_16384 _ _ _ _ (v30_at x0 x1 x5 x6 x7 x8 x9 x10 h1) i d

/-- The pooled second level. -/
abbrev poolOut : Fin 256 → Fin 128 → EReal := grouped (n := 256) (k := 64) rfl (nodesOut x0 x5 x6 x7 x8 x9 x10 x11 x12)

include h1 h2 in
theorem v53_at (i : Fin 256) (d : Fin 128) :
    val_main_v53 (F := Ideal) x0 x1 x2 x5 x6 x7 x8 x9 x10 x11 x12 (ix2 i d) = poolOut x0 x5 x6 x7 x8 x9 x10 x11 x12 i d := by
  unfold val_main_v53
  rw [scatter_at (d := scatter_S256x128_S16384x1_S16384x128_1_0_0_1) ⟨rfl, rfl, rfl, rfl⟩ (k := 64) rfl]
  · pointwise [val_main_v51, val_main_cst_7]
    exact Finset.sum_congr rfl fun j _ => v50_at x0 x1 x5 x6 x7 x8 x9 x10 x11 x12 h1 _ d
  · intro r
    pointwise [val_main_v52]
    exact h2 r

include h1 h4 in
theorem v111_at (i : Fin 256) (d : Fin 128) :
    val_main_v111 (F := Ideal) x0 x1 x4 x5 x6 x7 x8 x9 x10 x11 x12 (ix2 i d) = poolOut x0 x5 x6 x7 x8 x9 x10 x11 x12 i d := by
  unfold val_main_v111
  rw [scatter_at (d := scatter_S256x128_S16384x1_S16384x128_1_0_0_1) ⟨rfl, rfl, rfl, rfl⟩ (k := 64) rfl]
  · pointwise [val_main_v109, val_main_cst_17]
    exact Finset.sum_congr rfl fun j _ => v50_at x0 x1 x5 x6 x7 x8 x9 x10 x11 x12 h1 _ d
  · intro r
    pointwise [val_main_v110]
    exact h4 r

include h3 in
theorem v104_at (i : Fin 256) (d : Fin 128) :
    val_main_v104 (F := Ideal) x0 x3 (ix2 i d) = grouped (R := 131072) (n := 256) (k := 512) rfl (mat x0) i d := by
  unfold val_main_v104
  rw [scatter_at (d := scatter_S256x128_S131072x1_S131072x128_1_0_0_1) ⟨rfl, rfl, rfl, rfl⟩ (k := 512) rfl]
  · pointwise [val_main_v102, val_main_cst_16]
  · intro r
    pointwise [val_main_v103]
    exact h3 r

include h1 h2 in
theorem v57_at (i : Fin 256) (d : Fin 128) :
    val_main_v57 (F := Ideal) x0 x1 x2 x5 x6 x7 x8 x9 x10 x11 x12 x13 x14 (ix2 i d)
      = affine (poolOut x0 x5 x6 x7 x8 x9 x10 x11 x12) (mat x13) (row x14) i d := by
  pointwise [val_main_v57, val_main_v56, val_main_v54, val_main_v55]
  simp only [v53_at x0 x1 x2 x5 x6 x7 x8 x9 x10 x11 x12 h1 h2]
  rfl

theorem v77_eq : val_main_v77 (F := Ideal) x0 x1 x2 x5 x6 x7 x8 x9 x10 x11 x12 x13 x14 x15 x16
    = normalised (N := 256) reducesTo_S256x128_S128_d0 bcast_S1x128_S256x128_0_1 bcast_S_S256x128 0x43800000#32
      (val_main_v57 x0 x1 x2 x5 x6 x7 x8 x9 x10 x11 x12 x13 x14) x15 x16 := rfl

theorem v101_eq : val_main_v101 (F := Ideal) x0 x1 x2 x5 x6 x7 x8 x9 x10 x11 x12 x13 x14 x15 x16 x17 x18 x19 x20
    = normalised (N := 256) reducesTo_S256x128_S128_d0 bcast_S1x128_S256x128_0_1 bcast_S_S256x128 0x43800000#32
      (val_main_v81 x0 x1 x2 x5 x6 x7 x8 x9 x10 x11 x12 x13 x14 x15 x16 x17 x18) x19 x20 := rfl

include h1 h2 in
theorem v81_at (i : Fin 256) (d : Fin 128) :
    val_main_v81 (F := Ideal) x0 x1 x2 x5 x6 x7 x8 x9 x10 x11 x12 x13 x14 x15 x16 x17 x18 (ix2 i d)
      = affine (activated (plain 256 eps) (affine (poolOut x0 x5 x6 x7 x8 x9 x10 x11 x12) (mat x13) (row x14)) (row x15) (row x16))
        (mat x17) (row x18) i d := by
  pointwise [val_main_v81, val_main_v80, val_main_v79, val_main_v78]
  simp only [v77_eq, normalised_at _ _ _ _ (by norm_num) ofBits_256 _ _ _ _ (v57_at x0 x1 x2 x5 x6 x7 x8 x9 x10 x11 x12 x13 x14 h1 h2)]
  rfl

/-- The second network's output. -/
abbrev topOut : Fin 256 → Fin 128 → EReal :=
  network (plain 256 eps) (poolOut x0 x5 x6 x7 x8 x9 x10 x11 x12) (mat x13) (row x14) (row x15) (row x16) (mat x17) (row x18) (row x19) (row x20)

include h1 h2 in
theorem v101_at (i : Fin 256) (d : Fin 128) :
    val_main_v101 (F := Ideal) x0 x1 x2 x5 x6 x7 x8 x9 x10 x11 x12 x13 x14 x15 x16 x17 x18 x19 x20 (ix2 i d)
      = topOut x0 x5 x6 x7 x8 x9 x10 x11 x12 x13 x14 x15 x16 x17 x18 x19 x20 i d := by
  rw [v101_eq]
  exact normalised_at _ _ _ _ (by norm_num) ofBits_256 _ _ _ _ (v81_at x0 x1 x2 x5 x6 x7 x8 x9 x10 x11 x12 x13 x14 x15 x16 x17 x18 h1 h2) i d

include h1 h2 h3 h4 in
theorem v121_at (t : Fin 256) (d : Fin 16) :
    val_main_v121 (F := Ideal) x0 x1 x2 x3 x4 x5 x6 x7 x8 x9 x10 x11 x12 x13 x14 x15 x16 x17 x18 x19 x20 x21 x22 x23 x24 x25 x26 (ix2 t d)
      = affine (grouped (R := 131072) (n := 256) (k := 512) rfl (mat x0)) (mat x21) (row x22) t d
        + affine (poolOut x0 x5 x6 x7 x8 x9 x10 x11 x12) (mat x23) (row x24) t d
        + affine (topOut x0 x5 x6 x7 x8 x9 x10 x11 x12 x13 x14 x15 x16 x17 x18 x19 x20) (mat x25) (row x26) t d := by
  pointwise [val_main_v121, val_main_v120, val_main_v119, val_main_v118, val_main_v117, val_main_v116, val_main_v115, val_main_v114,
    val_main_v113, val_main_v112, val_main_v108, val_main_v107, val_main_v106, val_main_v105]
  simp only [v104_at x0 x3 h3, v111_at x0 x1 x4 x5 x6 x7 x8 x9 x10 x11 x12 h1 h4,
    v101_at x0 x1 x2 x5 x6 x7 x8 x9 x10 x11 x12 x13 x14 x15 x16 x17 x18 x19 x20 h1 h2]
  rfl

end Stages

end Cert.ReferenceIdeal.Tree

end
-- ==== Proof.Precondition.lean ====
/- What the precondition says: every row's group number is the row's number divided by the group's size, and the arrays that enter
   a variance are real. -/
module

public import proofs.«01_k».proof.Pre_uniform_finite_trees
public import proofs.«01_k».proof.Proof.ReferenceRead
public import Idealize.ShloMosaic.Lib.Routing.Words

@[expose] public section

noncomputable section

namespace Cert.Pre_uniform_finite_trees.Read

open Idealize.ShloMosaic Cert.Pre_uniform_finite_trees Cert.Pre_uniform_finite_trees.Facts Cert.Tree Cert.ReferenceIdeal.Tree

/-- The predicate's side conditions. -/
theorem facts : Cert.Pre_uniform_finite_trees.Facts := ⟨by decide, by decide, by decide, by decide, by decide⟩

/-! ## One mask -/

theorem word_toInt {a : ℕ} (h : a < 2 ^ 31) : (BitVec.ofNat 32 a).toInt = (a : ℤ) := by
  rw [BitVec.toInt_eq_toNat_of_lt, BitVec.toNat_ofNat, Nat.mod_eq_of_lt (by omega)]
  rw [BitVec.toNat_ofNat, Nat.mod_eq_of_lt (by omega)]; omega

/-- Where an array of group numbers is the row's number divided by `k`. -/
abbrev idsMask {R : ℕ} (k : ℕ) (ids : IVec (⟨1, ![R]⟩ : Shape) 32) (hb : S_.BroadcastsInDim (⟨1, ![R]⟩ : Shape) ![]) :
    IVec (⟨1, ![R]⟩ : Shape) 1 :=
  cmpi .eq ids (Host.divsi (iotaInDim (⟨1, ![R]⟩ : Shape) 32 0)
    (broadcastInDim (⟨1, ![R]⟩ : Shape) ![] hb (constantI S_ 32 (BitVec.ofNat 32 k))))

/-- Where an array is below +∞. -/
def below {s : Shape} (x : FVec Ideal s .f32) (hb : S_.BroadcastsInDim s ![]) : IVec s 1 :=
  cmpf .olt x (broadcastInDim s ![] hb (constant S_ .f32 0x7F800000#32))

/-- Where an array is real. -/
def finite {s : Shape} (x : FVec Ideal s .f32) (hb : S_.BroadcastsInDim s ![]) : IVec s 1 :=
  andi (below x hb) (cmpf .ogt x (broadcastInDim s ![] hb (constant S_ .f32 0xFF800000#32)))

theorem ids_of {R : ℕ} (k : ℕ) (ids : IVec (⟨1, ![R]⟩ : Shape) 32) (hb : S_.BroadcastsInDim (⟨1, ![R]⟩ : Shape) ![]) (hR : R ≤ 2 ^ 31)
    (h0 : 0 < k) (hk : k < 2 ^ 31)
    (h : idsMask k ids hb = fun _ => 1#1) : Ids k ids := by
  intro r
  have hr := congrFun h (ix1 r)
  have hlt : r.val < 2 ^ 31 := lt_of_lt_of_le r.isLt hR
  have hd : IntOp.divsi .host (BitVec.ofNat 32 r.val) (BitVec.ofNat 32 k) = BitVec.ofNat 32 (r.val / k) := Routing.divsi_word _ hlt h0 hk
  have he : ids (ix1 r) = BitVec.ofNat 32 (r.val / k) := by
    rw [← hd]
    revert hr
    pointwise []
    simp only [IntOp.cmpi]
    intro hr
    by_contra hne
    rw [beq_eq_false_iff_ne.mpr hne] at hr
    exact absurd hr (by decide)
  rw [he, word_toInt (lt_of_le_of_lt (Nat.div_le_self _ _) hlt)]

theorem ofBits_top : Ideal.ofBits .f32 0x7F800000#32 = ⊤ := by simp [Ideal.ofBits, Ideal.ieee]

theorem ofBits_bot : Ideal.ofBits .f32 0xFF800000#32 = ⊥ := by simp [Ideal.ofBits, Ideal.ieee]

theorem bit_eq_one {p : Prop} [Decidable p] : BitVec.ofBool (decide p) = 1#1 ↔ p := by by_cases h : p <;> simp [h]

theorem both_bits (a b : BitVec 1) : IntOp.andi a b = 1#1 ↔ a = 1#1 ∧ b = 1#1 := by revert a b; decide

/-- Two masks joined hold everywhere when each does. -/
theorem all_andi {s : Shape} (a b : IVec s 1) : (andi a b = fun _ => 1#1) ↔ (a = fun _ => 1#1) ∧ (b = fun _ => 1#1) := by
  constructor
  · intro h
    exact ⟨funext fun i => ((both_bits _ _).mp (congrFun h i)).1, funext fun i => ((both_bits _ _).mp (congrFun h i)).2⟩
  · rintro ⟨ha, hb⟩
    exact funext fun i => (both_bits _ _).mpr ⟨congrFun ha i, congrFun hb i⟩

theorem below_of {s : Shape} (x : FVec Ideal s .f32) (hb : S_.BroadcastsInDim s ![])
    (h : below x hb = fun _ => 1#1) (i : s.Idx) : x i < ⊤ := by
  have hi := congrFun h i
  revert hi
  pointwise [below, finite]
  rw [bit_eq_one, ofBits_top]
  exact id

theorem real_of {s : Shape} (x : FVec Ideal s .f32) (hb : S_.BroadcastsInDim s ![])
    (h : finite x hb = fun _ => 1#1) (i : s.Idx) : Real' (x i) := by
  have hi := congrFun h i
  revert hi
  pointwise [below, finite]
  rw [both_bits, bit_eq_one, bit_eq_one, ofBits_top, ofBits_bot]
  exact fun hi => Real'.of_lt hi.1 hi.2

/-! ## All of them -/

/-- What the precondition says of the arguments. -/
structure Uniform (x0 : FVec Ideal S131072x128 .f32) (x1 : IVec S131072 32) (x2 : IVec S16384 32) (x3 : IVec S131072 32) (x4 : IVec S16384 32)
  (x5 : FVec Ideal S128x128 .f32) (x6 x7 x8 : FVec Ideal S128 .f32) (x9 : FVec Ideal S128x128 .f32) (x10 x11 x12 : FVec Ideal S128 .f32)
  (x13 : FVec Ideal S128x128 .f32) (x14 x15 x16 : FVec Ideal S128 .f32) (x17 : FVec Ideal S128x128 .f32) (x18 x19 : FVec Ideal S128 .f32) : Prop where
  ids1 : Ids 8 x1
  ids2 : Ids 64 x2
  ids3 : Ids 512 x3
  ids4 : Ids 64 x4
  real0 : ∀ i, Real' (x0 i)
  real5 : ∀ i, Real' (x5 i)
  real6 : ∀ i, Real' (x6 i)
  real7 : ∀ i, Real' (x7 i)
  below8 : ∀ i, x8 i < ⊤
  real9 : ∀ i, Real' (x9 i)
  real10 : ∀ i, Real' (x10 i)
  real11 : ∀ i, Real' (x11 i)
  below12 : ∀ i, x12 i < ⊤
  real13 : ∀ i, Real' (x13 i)
  real14 : ∀ i, Real' (x14 i)
  real15 : ∀ i, Real' (x15 i)
  below16 : ∀ i, x16 i < ⊤
  real17 : ∀ i, Real' (x17 i)
  real18 : ∀ i, Real' (x18 i)
  real19 : ∀ i, Real' (x19 i)

attribute [local instance] facts

theorem uniform_of (x0 : FVec Ideal S131072x128 .f32) (x1 : IVec S131072 32) (x2 : IVec S16384 32) (x3 : IVec S131072 32) (x4 : IVec S16384 32)
  (x5 : FVec Ideal S128x128 .f32) (x6 x7 x8 : FVec Ideal S128 .f32) (x9 : FVec Ideal S128x128 .f32) (x10 x11 x12 : FVec Ideal S128 .f32)
  (x13 : FVec Ideal S128x128 .f32) (x14 x15 x16 : FVec Ideal S128 .f32) (x17 : FVec Ideal S128x128 .f32) (x18 x19 x20 : FVec Ideal S128 .f32)
  (x21 : FVec Ideal S128x16 .f32) (x22 : FVec Ideal S16 .f32) (x23 : FVec Ideal S128x16 .f32) (x24 : FVec Ideal S16 .f32)
  (x25 : FVec Ideal S128x16 .f32) (x26 : FVec Ideal S16 .f32)
    (h : (fn (F := Ideal) x0 x1 x2 x3 x4 x5 x6 x7 x8 x9 x10 x11 x12 x13 x14 x15 x16 x17 x18 x19 x20 x21 x22 x23 x24 x25 x26).1 = (fun _ => 1#1)
    ∧ (fn (F := Ideal) x0 x1 x2 x3 x4 x5 x6 x7 x8 x9 x10 x11 x12 x13 x14 x15 x16 x17 x18 x19 x20 x21 x22 x23 x24 x25 x26).2.1 = (fun _ => 1#1)
    ∧ (fn (F := Ideal) x0 x1 x2 x3 x4 x5 x6 x7 x8 x9 x10 x11 x12 x13 x14 x15 x16 x17 x18 x19 x20 x21 x22 x23 x24 x25 x26).2.2.1 = (fun _ => 1#1)
    ∧ (fn (F := Ideal) x0 x1 x2 x3 x4 x5 x6 x7 x8 x9 x10 x11 x12 x13 x14 x15 x16 x17 x18 x19 x20 x21 x22 x23 x24 x25 x26).2.2.2.1 = (fun _ => 1#1)
    ∧ (fn (F := Ideal) x0 x1 x2 x3 x4 x5 x6 x7 x8 x9 x10 x11 x12 x13 x14 x15 x16 x17 x18 x19 x20 x21 x22 x23 x24 x25 x26).2.2.2.2 = (fun _ => 1#1)) :
    Uniform x0 x1 x2 x3 x4 x5 x6 x7 x8 x9 x10 x11 x12 x13 x14 x15 x16 x17 x18 x19 := by
  have hi : andi (idsMask 8 x1 bcast_S_S131072) (idsMask 512 x3 bcast_S_S131072) = fun _ => 1#1 := h.1
  have hm : andi (idsMask 64 x2 bcast_S_S16384) (idsMask 64 x4 bcast_S_S16384) = fun _ => 1#1 := h.2.1
  have hx : finite x0 bcast_S_S131072x128 = fun _ => 1#1 := h.2.2.1
  have hw : andi (andi (andi (finite x5 bcast_S_S128x128) (finite x9 bcast_S_S128x128)) (finite x13 bcast_S_S128x128)) (finite x17 bcast_S_S128x128) = fun _ => 1#1 := h.2.2.2.1
  have hr : andi (andi (andi (andi (andi (andi (andi (andi (andi (andi (finite x6 bcast_S_S128) (finite x7 bcast_S_S128)) (below x8 bcast_S_S128)) (finite x10 bcast_S_S128)) (finite x11 bcast_S_S128)) (below x12 bcast_S_S128)) (finite x14 bcast_S_S128)) (finite x15 bcast_S_S128)) (below x16 bcast_S_S128)) (finite x18 bcast_S_S128)) (finite x19 bcast_S_S128) = fun _ => 1#1 := h.2.2.2.2
  rw [all_andi] at hi hm
  simp only [all_andi] at hw hr
  obtain ⟨⟨⟨h5, h9⟩, h13⟩, h17⟩ := hw
  obtain ⟨⟨⟨⟨⟨⟨⟨⟨⟨⟨h6, h7⟩, h8⟩, h10⟩, h11⟩, h12⟩, h14⟩, h15⟩, h16⟩, h18⟩, h19⟩ := hr
  exact ⟨ids_of 8 x1 _ (by norm_num) (by norm_num) (by norm_num) hi.1, ids_of 64 x2 _ (by norm_num) (by norm_num) (by norm_num) hm.1,
    ids_of 512 x3 _ (by norm_num) (by norm_num) (by norm_num) hi.2, ids_of 64 x4 _ (by norm_num) (by norm_num) (by norm_num) hm.2,
    real_of x0 _ hx, real_of x5 _ h5, real_of x6 _ h6, real_of x7 _ h7, below_of x8 _ h8, real_of x9 _ h9, real_of x10 _ h10, real_of x11 _ h11, below_of x12 _ h12, real_of x13 _ h13, real_of x14 _ h14, real_of x15 _ h15, below_of x16 _ h16, real_of x17 _ h17, real_of x18 _ h18, real_of x19 _ h19⟩

end Cert.Pre_uniform_finite_trees.Read

end
-- ==== Proof.Equation.lean ====
/- The kernel's scores and the reference's are the same array of extended reals, when every group has its full size and the
   arrays that enter a variance are real. -/
module

public import proofs.«01_k».proof.Proof.Precondition
public import proofs.«01_k».proof.Proof.KernelRead
public import proofs.«01_k».proof.Proof.Value

@[expose] public section

noncomputable section

namespace Cert.Equation

open Idealize.ShloMosaic Cert.ReferenceIdeal Cert.ReferenceIdeal.Read Cert.Tree Cert.Pre_uniform_finite_trees.Read
open Cert.KernelIdeal (S16384x8x128)
open Cert.ReferenceIdeal.Tree (row leafSums nodesOut poolOut topOut v121_at)

/-! ## The kernel's reading of its arguments -/

theorem vec_row (v : FVec Ideal S128 .f32) : vec (Cert.KernelIdeal.Tree.row (F := Ideal) v) = row v := by
  funext d
  pointwise [Cert.KernelIdeal.Tree.row]

theorem pool_leaves (x : FVec Ideal S131072x128 .f32) (h : S131072x128.ShapeCasts S16384x8x128) :
    Tree.pool (shapeCast S16384x8x128 x h) = leafSums x := by
  funext i e
  pointwise [Tree.pool, leafSums, grouped, pick]

theorem bias_at (a b c : FVec Ideal S16 .f32) (h : S16.ShapeCasts S1x16) (d : Fin 16) :
    vec (shapeCast S1x16 (addf (addf a b) c) h) d = row a d + row b d + row c d := by
  pointwise [vec]

/-! ## The two networks -/

section

variable {x0 : FVec Ideal S131072x128 .f32} {x1 : IVec S131072 32} {x2 : IVec S16384 32} {x3 : IVec S131072 32} {x4 : IVec S16384 32}
  {x5 : FVec Ideal S128x128 .f32} {x6 x7 x8 : FVec Ideal S128 .f32} {x9 : FVec Ideal S128x128 .f32} {x10 x11 x12 : FVec Ideal S128 .f32}
  {x13 : FVec Ideal S128x128 .f32} {x14 x15 x16 : FVec Ideal S128 .f32} {x17 : FVec Ideal S128x128 .f32} {x18 x19 x20 : FVec Ideal S128 .f32}
  {x21 : FVec Ideal S128x16 .f32} {x22 : FVec Ideal S16 .f32} {x23 : FVec Ideal S128x16 .f32} {x24 : FVec Ideal S16 .f32}
  {x25 : FVec Ideal S128x16 .f32} {x26 : FVec Ideal S16 .f32}

theorem nodes_eq (u : Uniform x0 x1 x2 x3 x4 x5 x6 x7 x8 x9 x10 x11 x12 x13 x14 x15 x16 x17 x18 x19) :
    network (folded 16384 eps) (leafSums x0) (mat x5) (row x6) (row x7) (row x8) (mat x9) (row x10) (row x11) (row x12) = nodesOut x0 x5 x6 x7 x8 x9 x10 x11 x12 :=
  network_eq (by norm_num) eps_pos (by norm_num) (real_grouped _ fun _ _ => u.real0 _) (fun _ _ => u.real5 _) (fun _ => u.real6 _)
    (fun _ => u.real7 _) (fun _ => u.below8 _) (fun _ _ => u.real9 _) (fun _ => u.real10 _) (fun _ => u.real11 _)

theorem nodes_real (u : Uniform x0 x1 x2 x3 x4 x5 x6 x7 x8 x9 x10 x11 x12 x13 x14 x15 x16 x17 x18 x19) (i : Fin 16384) (d : Fin 128) : Real' (nodesOut x0 x5 x6 x7 x8 x9 x10 x11 x12 i d) :=
  real_network (by norm_num) eps_pos (by norm_num) (real_grouped _ fun _ _ => u.real0 _) (fun _ _ => u.real5 _) (fun _ => u.real6 _)
    (fun _ => u.real7 _) (fun _ => u.below8 _) (fun _ _ => u.real9 _) (fun _ => u.real10 _) (fun _ => u.real11 _)
    (fun _ => u.below12 _) i d

theorem top_eq (u : Uniform x0 x1 x2 x3 x4 x5 x6 x7 x8 x9 x10 x11 x12 x13 x14 x15 x16 x17 x18 x19) :
    network (folded 256 eps) (poolOut x0 x5 x6 x7 x8 x9 x10 x11 x12) (mat x13) (row x14) (row x15) (row x16) (mat x17) (row x18) (row x19) (row x20)
      = topOut x0 x5 x6 x7 x8 x9 x10 x11 x12 x13 x14 x15 x16 x17 x18 x19 x20 :=
  network_eq (by norm_num) eps_pos (by norm_num) (real_grouped _ (nodes_real u)) (fun _ _ => u.real13 _) (fun _ => u.real14 _)
    (fun _ => u.real15 _) (fun _ => u.below16 _) (fun _ _ => u.real17 _) (fun _ => u.real18 _) (fun _ => u.real19 _)

end

/-- A tree's leaves, summed by node and then by tree. -/
theorem trees_eq (x : FVec Ideal S131072x128 .f32) :
    grouped (n := 256) (k := 64) rfl (leafSums x) = grouped (R := 131072) (n := 256) (k := 512) rfl (mat x) := by
  funext t d
  exact sum_pick_pick (R := 131072) (n := 256) (k := 64) (l := 8) rfl rfl (fun r => mat x r d) t

/-! ## The scores -/

theorem scores_eq {x0 : FVec Ideal S131072x128 .f32} {x1 : IVec S131072 32} {x2 : IVec S16384 32} {x3 : IVec S131072 32} {x4 : IVec S16384 32}
  {x5 : FVec Ideal S128x128 .f32} {x6 x7 x8 : FVec Ideal S128 .f32} {x9 : FVec Ideal S128x128 .f32} {x10 x11 x12 : FVec Ideal S128 .f32}
  {x13 : FVec Ideal S128x128 .f32} {x14 x15 x16 : FVec Ideal S128 .f32} {x17 : FVec Ideal S128x128 .f32} {x18 x19 x20 : FVec Ideal S128 .f32}
  {x21 : FVec Ideal S128x16 .f32} {x22 : FVec Ideal S16 .f32} {x23 : FVec Ideal S128x16 .f32} {x24 : FVec Ideal S16 .f32}
  {x25 : FVec Ideal S128x16 .f32} {x26 : FVec Ideal S16 .f32}

    (u : Uniform x0 x1 x2 x3 x4 x5 x6 x7 x8 x9 x10 x11 x12 x13 x14 x15 x16 x17 x18 x19) (h₁ h₂) :
    Cert.KernelIdeal.Tree.scores (F := Ideal) (shapeCast S16384x8x128 x0 h₁) x5 (Cert.KernelIdeal.Tree.row x6) (Cert.KernelIdeal.Tree.row x7)
        (Cert.KernelIdeal.Tree.row x8) x9 (Cert.KernelIdeal.Tree.row x10) (Cert.KernelIdeal.Tree.row x11) (Cert.KernelIdeal.Tree.row x12)
        x13 (Cert.KernelIdeal.Tree.row x14) (Cert.KernelIdeal.Tree.row x15) (Cert.KernelIdeal.Tree.row x16)
        x17 (Cert.KernelIdeal.Tree.row x18) (Cert.KernelIdeal.Tree.row x19) (Cert.KernelIdeal.Tree.row x20)
        x21 x23 x25 (shapeCast S1x16 (addf (addf x22 x24) x26) h₂)
      = val_main_v121 (F := Ideal) x0 x1 x2 x3 x4 x5 x6 x7 x8 x9 x10 x11 x12 x13 x14 x15 x16 x17 x18 x19 x20 x21 x22 x23 x24 x25 x26 := by
  funext j
  obtain ⟨t, d, rfl⟩ : ∃ t d, j = ix2 t d := ⟨j 0, j 1, by funext k; fin_cases k <;> rfl⟩
  rw [v121_at x0 x1 x2 x3 x4 x5 x6 x7 x8 x9 x10 x11 x12 x13 x14 x15 x16 x17 x18 x19 x20 x21 x22 x23 x24 x25 x26 u.ids1 u.ids2 u.ids3 u.ids4 t d]
  rw [Cert.KernelIdeal.Tree.scores_at _ _ _ _ _ _ _ _ _ _ _ _ _ _ _ _ _ _ _ _ _ (poolOut x0 x5 x6 x7 x8 x9 x10 x11 x12) (topOut x0 x5 x6 x7 x8 x9 x10 x11 x12 x13 x14 x15 x16 x17 x18 x19 x20)
    (by rw [pool_leaves, vec_row, vec_row, vec_row, vec_row, vec_row, vec_row, nodes_eq u])
    (by rw [vec_row, vec_row, vec_row, vec_row, vec_row, vec_row, top_eq u])]
  rw [pool_leaves]
  simp only [Cert.KernelIdeal.Tree.kernelScores, trees_eq, bias_at, affine]
  ac_rfl

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Value
public import proofs.«01_k».proof.Proof.Equation
public import Idealize.ShloMosaic.Adequacy
public import Idealize.ShloMosaic.Init

@[expose] public section

noncomputable section

/- The five claims about the kernel and its reference, put together from the runs:

   * the kernel as it stands runs, keeps its arguments and leaves every semaphore at zero (`Cert.Kernel.Whole.frame`);
   * so do its idealization (`Cert.KernelIdeal.Tree.value`) and the reference (its generated run, which has no semaphore);
   * the idealization rewrote nothing, so that it preserves the kernel holds at once;
   * both programs' results are the same array (`Cert.Equation.scores_eq`). -/

namespace Cert.Proof

open Idealize.ShloMosaic Idealize.SL.Sem

attribute [local instance] Cert.Pre_uniform_finite_trees.Read.facts

/-! ## The frames -/

theorem frame_kernel : Cert.quiescent_Kernel := fun m ρ _ => Cert.Kernel.Whole.frame m ρ

theorem frame_kernelIdeal : Cert.quiescent_KernelIdeal := fun m ρ _ =>
  (θ_run Cert.KernelIdeal.defs _ _).mono (fun _ h => ⟨fun c => (h.1 c).2, h.2⟩) (Cert.KernelIdeal.Tree.value m ρ)

theorem frame_kernelIdeal_pre : Cert.quiescent_KernelIdeal_pre_uniform_finite_trees := fun m ρ _ =>
  (θ_run Cert.KernelIdeal.defs _ _).mono (fun _ h => ⟨fun c => (h.1 c).2, h.2⟩) (Cert.KernelIdeal.Tree.value m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_referenceIdeal_pre : Cert.quiescent_ReferenceIdeal_pre_uniform_finite_trees := fun m ρ _ =>
  (θ_run Cert.ReferenceIdeal.defs _ _).mono (fun r h => ⟨fun c => (h c).2, sem_eq_zero_of_no_sems (by decide) r.2⟩)
    (Cert.ReferenceIdeal.Value.run m ρ)

/-! ## The value -/

/-- The kernel's answer is the reference's term, read at the same arguments. -/
theorem answer_eq (m : (ℓ : Loc Cert.KernelIdeal.nD Cert.KernelIdeal.τ Cert.KernelIdeal.sig) → Buf (Elt Ideal) ℓ)
    (hp : Cert.Pre_KernelIdeal_uniform_finite_trees m) (c : Dev Cert.KernelIdeal.nD) :
    Cert.KernelIdeal.Tree.answer m c = Cert.ReferenceIdeal.Read.val_main_v121 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      (m ((c.tc : Thread Cert.KernelIdeal.nD Cert.KernelIdeal.τ).loc Cert.KernelIdeal.main_arg18)) (m ((c.tc : Thread Cert.KernelIdeal.nD Cert.KernelIdeal.τ).loc Cert.KernelIdeal.main_arg19))
      (m ((c.tc : Thread Cert.KernelIdeal.nD Cert.KernelIdeal.τ).loc Cert.KernelIdeal.main_arg20)) (m ((c.tc : Thread Cert.KernelIdeal.nD Cert.KernelIdeal.τ).loc Cert.KernelIdeal.main_arg21))
      (m ((c.tc : Thread Cert.KernelIdeal.nD Cert.KernelIdeal.τ).loc Cert.KernelIdeal.main_arg22)) (m ((c.tc : Thread Cert.KernelIdeal.nD Cert.KernelIdeal.τ).loc Cert.KernelIdeal.main_arg23))
      (m ((c.tc : Thread Cert.KernelIdeal.nD Cert.KernelIdeal.τ).loc Cert.KernelIdeal.main_arg24)) (m ((c.tc : Thread Cert.KernelIdeal.nD Cert.KernelIdeal.τ).loc Cert.KernelIdeal.main_arg25))
      (m ((c.tc : Thread Cert.KernelIdeal.nD Cert.KernelIdeal.τ).loc Cert.KernelIdeal.main_arg26)) :=
  Cert.Equation.scores_eq (Cert.Pre_uniform_finite_trees.Read.uniform_of _ _ _ _ _ _ _ _ _ _ _ _ _ _ _ _ _ _ _ _ _ _ _ _ _ _ _ (hp c)) _ _

theorem value : Cert.algebraic_KernelIdeal_ReferenceIdeal_pre_uniform_finite_trees := by
  intro m ρ m' ρ' hp hm
  refine ⟨Cert.KernelIdeal.Tree.answer m, (θ_run Cert.KernelIdeal.defs _ _).mono (fun _ h => h.1) (Cert.KernelIdeal.Tree.value m ρ),
    (θ_run Cert.ReferenceIdeal.defs _ _).mono (fun r h c => ⟨(h c).1.trans ?_, (h c).2⟩) (Cert.ReferenceIdeal.Value.run m' ρ')⟩
  rw [answer_eq m hp c, Cert.ReferenceIdeal.Read.val_main_v121_eq]
  change Cert.ReferenceIdeal.Read.val_main_v121 (F := Ideal)
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21))
      (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))
      (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))
      (m' ((c.tc : Thread Cert.ReferenceIdeal.nD Cert.ReferenceIdeal.τ).loc Cert.ReferenceIdeal.main_arg26)) = _
  obtain ⟨h0, h1, h2, h3, h4, h5, h6, h7, h8, h9, h10, h11, h12, h13, h14, h15, h16, h17, h18, h19, h20, h21, h22, h23, h24, h25, h26⟩ := hm c
  rw [h0, h1, h2, h3, h4, h5, h6, h7, h8, h9, h10, h11, h12, h13, h14, h15, h16, h17, h18, h19, h20, h21, h22, h23, h24, h25, h26]

theorem claim : Cert.Claim :=
  ⟨Cert.Kernel.Gen.facts, Cert.KernelIdeal.Gen.facts, Cert.ReferenceIdeal.Gen.facts, Cert.Pre_uniform_finite_trees.Read.facts,
    frame_kernel, frame_kernelIdeal, frame_kernelIdeal_pre, frame_referenceIdeal, frame_referenceIdeal_pre, trivial, value⟩

end Cert.Proof

end
